-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v27)) (v1 : (c : Dev Cert.Kernel.nD) → Buf (Elt Bits) ((c.tc : Thread Cert.Kernel.nD Cert.Kernel.τ).loc Cert.Kernel.main_v28)) (v2 : (c : Dev Cert.Kernel.nD) → Buf (Elt Bits) ((c.tc : Thread Cert.Kernel.nD Cert.Kernel.τ).loc Cert.Kernel.main_v35)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v27) = v0 c
          ∧ r.2.mem ((c.tc : Thread Cert.Kernel.nD Cert.Kernel.τ).loc Cert.Kernel.main_v28) = v1 c
          ∧ r.2.mem ((c.tc : Thread Cert.Kernel.nD Cert.Kernel.τ).loc Cert.Kernel.main_v35) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v26) = v0 c
          ∧ r.2.mem ((c.tc : Thread Cert.Reference.nD Cert.Reference.τ).loc Cert.Reference.main_v19) = v1 c
          ∧ r.2.mem ((c.tc : Thread Cert.Reference.nD Cert.Reference.τ).loc Cert.Reference.main_v33) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S1024x200 : Shape := ⟨2, ![1024, 200]⟩
abbrev S1024 : Shape := ⟨1, ![1024]⟩
abbrev S100000x128 : Shape := ⟨2, ![100000, 128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : IVec S1024 32) (main_arg2 : FVec F S1024 .f32) (main_arg3 : FVec F S100000x128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S200 : Shape := ⟨1, ![200]⟩
abbrev S1x200 : Shape := ⟨2, ![1, 200]⟩
abbrev S1x204800 : Shape := ⟨2, ![1, 204800]⟩
abbrev S204800x128 : Shape := ⟨2, ![204800, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1024x200x128 : Shape := ⟨3, ![1024, 200, 128]⟩

abbrev nBuf : Table → Nat
  | .hbm => 52
  | .local .scVector .vmem => 2
  | _ => 0

abbrev bufTy : (tb : Table) → Fin (nBuf tb) → BufTy
  | .hbm, ⟨0, _⟩ => ⟨S1024x200, .i32⟩
  | .hbm, ⟨1, _⟩ => ⟨S1024, .i32⟩
  | .hbm, ⟨2, _⟩ => ⟨S1024, .f32⟩
  | .hbm, ⟨3, _⟩ => ⟨S100000x128, .f32⟩
  | .hbm, ⟨4, _⟩ => ⟨S_, .i32⟩
  | .hbm, ⟨5, _⟩ => ⟨S1024, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S200, .i32⟩
  | .hbm, ⟨21, _⟩ => ⟨S1x200, .i32⟩
  | .hbm, ⟨22, _⟩ => ⟨S1024x1, .i32⟩
  | .hbm, ⟨23, _⟩ => ⟨S1024x200, .i32⟩
  | .hbm, ⟨24, _⟩ => ⟨S1024x200, .i32⟩
  | .hbm, ⟨25, _⟩ => ⟨S1024x200, .i1⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x200, .i32⟩
  | .hbm, ⟨35, _⟩ => ⟨S_, .i32⟩
  | .hbm, ⟨36, _⟩ => ⟨S_, .i32⟩
  | .hbm, ⟨37, _⟩ => ⟨S1024x200, .i32⟩
  | .hbm, ⟨38, _⟩ => ⟨S1024x200, .i32⟩
  | .hbm, ⟨39, _⟩ => ⟨S1x204800, .i32⟩
  | .hbm, ⟨40, _⟩ => ⟨S204800x128, .f32⟩
  | .hbm, ⟨41, _⟩ => ⟨S1024x200x128, .f32⟩
  | .hbm, ⟨42, _⟩ => ⟨S1024, .f32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1024, .i32⟩
  | .hbm, ⟨50, _⟩ => ⟨S1024x1, .i32⟩
  | .hbm, ⟨51, _⟩ => ⟨S1024, .f32⟩
  | .local .scVector .vmem, ⟨0, _⟩ => ⟨S2x1x128, .i32⟩
  | .local .scVector .vmem, ⟨1, _⟩ => ⟨S2x128x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1_0 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_arg3_scv : Ref sig .scVector := ⟨.hbm, 3, rfl⟩
abbrev main_v25_scv : Ref sig .scVector := ⟨.hbm, 39, rfl⟩
abbrev main_v26_scv : Ref sig .scVector := ⟨.hbm, 40, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c50_i32_27_r0 : BitVec 32 := 50#32
  let v32_r0 : BitVec 32 := Scalar.addi c0_i32_26_r0 c50_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c49_i32_68_r0 : BitVec 32 := 49#32
  let v83_r0 : BitVec 1 := Scalar.cmpi .sge arg5_r0 c49_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c49_i32_55_r0 : BitVec 32 := 49#32
  let v65_r0 : BitVec 1 := Scalar.cmpi .eq arg5_r0 c49_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x204800.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x204800.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S204800x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S204800x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x204800.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x204800.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S204800x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S204800x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c49_i32_33_r0 : BitVec 32 := 49#32
  let v37_r0 : BitVec 32 := Scalar.select v36_r0 c49_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S204800x128.size a)
theorem k0_off19_inb : ∀ (i : grid0.Coords) (v33_4_r0 : BitVec 32) (k0_hw5 : k0_chk5 i v33_4_r0), ∀ a, (k0_off19 i v33_4_r0) a + S128x128.size a ≤ S204800x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1024x200 : Shape := ⟨2, ![1024, 200]⟩
abbrev S1024 : Shape := ⟨1, ![1024]⟩
abbrev S100000x128 : Shape := ⟨2, ![100000, 128]⟩
abbrev S_ : Shape := ⟨0, ![]⟩
abbrev S200 : Shape := ⟨1, ![200]⟩
abbrev S1x200 : Shape := ⟨2, ![1, 200]⟩
abbrev S1024x1 : Shape := ⟨2, ![1024, 1]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩

abbrev nBuf : Space → Nat
  | .hbm => 72
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024, .i32⟩
  | .hbm, ⟨2, _⟩ => ⟨S1024, .f32⟩
  | .hbm, ⟨3, _⟩ => ⟨S100000x128, .f32⟩
  | .hbm, ⟨4, _⟩ => ⟨S_, .i32⟩
  | .hbm, ⟨5, _⟩ => ⟨S1024, .i32⟩
  | .hbm, ⟨6, _⟩ => ⟨S1024, .i32⟩
  | .hbm, ⟨7, _⟩ => ⟨S200, .i32⟩
  | .hbm, ⟨8, _⟩ => ⟨S1x200, .i32⟩
  | .hbm, ⟨9, _⟩ => ⟨S1024x1, .i32⟩
  | .hbm, ⟨10, _⟩ => ⟨S1024x200, .i32⟩
  | .hbm, ⟨11, _⟩ => ⟨S1024x200, .i32⟩
  | .hbm, ⟨12, _⟩ => ⟨S1024x200, .i1⟩
  | .hbm, ⟨13, _⟩ => ⟨S_, .i32⟩
  | .hbm, ⟨14, _⟩ => ⟨S_, .i32⟩
  | .hbm, ⟨15, _⟩ => ⟨S1024x200, .i32⟩
  | .hbm, ⟨16, _⟩ => ⟨S1024x200, .i32⟩
  | .hbm, ⟨17, _⟩ => ⟨S_, .i32⟩
  | .hbm, ⟨18, _⟩ => ⟨S1024x200, .i32⟩
  | .hbm, ⟨19, _⟩ => ⟨S1024x200, .i1⟩
  | .hbm, ⟨20, _⟩ => ⟨S_, .i32⟩
  | .hbm, ⟨21, _⟩ => ⟨S1024x200, .i32⟩
  | .hbm, ⟨22, _⟩ => ⟨S1024x200, .i32⟩
  | .hbm, ⟨23, _⟩ => ⟨S1024x200, .i32⟩
  | .hbm, ⟨24, _⟩ => ⟨S1024x200x1, .i32⟩
  | .hbm, ⟨25, _⟩ => ⟨S1, .i32⟩
  | .hbm, ⟨26, _⟩ => ⟨S_, .i32⟩
  | .hbm, ⟨27, _⟩ => ⟨S1024x200x1, .i32⟩
  | .hbm, ⟨28, _⟩ => ⟨S1024x200x1, .i1⟩
  | .hbm, ⟨29, _⟩ => ⟨S1x1x1, .i32⟩
  | .hbm, ⟨30, _⟩ => ⟨S1024x200x1, .i32⟩
  | .hbm, ⟨31, _⟩ => ⟨S1024x200x1, .i1⟩
  | .hbm, ⟨32, _⟩ => ⟨S1024x200x1, .i1⟩
  | .hbm, ⟨33, _⟩ => ⟨S_, .i1⟩
  | .hbm, ⟨34, _⟩ => ⟨S1024x200, .i1⟩
  | .hbm, ⟨35, _⟩ => ⟨S1024x200x128, .f32⟩
  | .hbm, ⟨36, _⟩ => ⟨S1024x200x128, .i1⟩
  | .hbm, ⟨37, _⟩ => ⟨S_, .f32⟩
  | .hbm, ⟨38, _⟩ => ⟨S1024x200x128, .f32⟩
  | .hbm, ⟨39, _⟩ => ⟨S1024x200x128, .f32⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S1024, .i32⟩
  | .hbm, ⟨53, _⟩ => ⟨S1024, .f32⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S1024, .i32⟩
  | .hbm, ⟨61, _⟩ => ⟨S1024x1, .i32⟩
  | .hbm, ⟨62, _⟩ => ⟨S1024x200x128, .f32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S1024, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v9 : Ref sig .tc := ⟨.hbm, 39, rfl⟩
abbrev main_v10 : Ref sig .tc := ⟨.hbm, 40, rfl⟩
abbrev main_call2_v0 : Ref sig .tc := ⟨.hbm, 41, rfl⟩
abbrev main_call2_v1_0 : Ref sig .tc := ⟨.hbm, 42, rfl⟩
abbrev main_v11 : Ref sig .tc := ⟨.hbm, 43, rfl⟩
abbrev main_c_1 : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_3 : Ref sig .tc := ⟨.hbm, 54, rfl⟩
abbrev main_v20 : Ref sig .tc := ⟨.hbm, 55, rfl⟩
abbrev main_v21 : Ref sig .tc := ⟨.hbm, 56, rfl⟩
abbrev main_c_4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c_5 : Ref sig .tc := ⟨.hbm, 63, rfl⟩
abbrev main_v27 : Ref sig .tc := ⟨.hbm, 64, rfl⟩
abbrev main_v28 : Ref sig .tc := ⟨.hbm, 65, rfl⟩
abbrev main_c_6 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩

abbrev nD : Nat := 1
abbrev τ : Topo := Topo.v7x

variable {F : FTy → Type} [FloatOps F]
-- ==== Proof.Words.lean ====
/-
  The words the tile's loop carries and what it computes from them. A tile works through 50 chunks of 128 rows; at the
  start of trip `t` the loop carries the number of index fetches issued, of index chunks consumed, of row chunks
  gathered, of row chunks written back, and the chunk it is at. Everything the program computes from those words —
  which of two slots, which chunk, whether a step is taken — is stated here in closed form.
-/
module

public import proofs.«01_k».proof.Proof.Gen.KernelIdeal
public import proofs.«01_k».proof.Proof.Gen.KernelIdeal.Skeleton

@[expose] public section

noncomputable section

namespace Cert.Proof.GatherK

open Cert.KernelIdeal Cert.KernelIdeal.Gen
open Idealize.ShloMosaic

/-- The trips of the loop. -/
abbrev Trip : Type := Fin k0_t1_loop.trips

theorem trips_eq : k0_t1_loop.trips = 50 := by decide +kernel

theorem trip_lt (t : Trip) : t.val < 50 := by rw [← trips_eq]; exact t.isLt

/-- The slot of two that item `n` of a stream uses. -/
def slot (n : ℕ) : Fin 2 := ⟨n % 2, Nat.mod_lt _ (by decide)⟩

theorem slot_ne (n : ℕ) : slot (n + 1) ≠ slot n := by
  intro h; have := congrArg Fin.val h; simp only [slot] at this; omega

/-- The number, out of 1600, of chunk `n` of the tile at `i`. -/
def chunkNo (i : grid0.Coords) (n : Fin 50) : Fin 1600 :=
  ⟨50 * (16 * (i 0).val + (i 1).val) + n.val, by
    have h0 : (i 0).val < 2 := (i 0).isLt
    have h1 : (i 1).val < 16 := (i 1).isLt
    have := n.isLt
    omega⟩

/-- A natural number as a 32-bit word. -/
abbrev wd (n : ℕ) : BitVec 32 := BitVec.ofNat 32 n

/-- The words carried into trip `t`: fetches issued, index chunks consumed, chunks gathered, chunks written back,
    and the chunk the trip is at (wrapping to 0 past the last). -/
def carried (t : ℕ) : BitVec 32 × BitVec 32 × BitVec 32 × BitVec 32 × BitVec 32 :=
  (wd (min (t + 1) 50), wd t, wd t, wd (t - 1), wd (if t = 50 then 0 else t))

/-- The first chunk of the tile at `i`, as the program computes it. -/
def firstChunk (i : grid0.Coords) : BitVec 32 :=
  Scalar.muli (Scalar.addi (Scalar.addi 0#32 (Scalar.muli (BitVec.ofNat 32 (i 1).val) 1#32)) (Scalar.muli (BitVec.ofNat 32 (i 0).val) 16#32)) 50#32

/-! ## Slots -/

theorem off4_eq : ∀ t : Trip, k0_off4 (wd (t.val + 1)) = ![(slot (t.val + 1)).val, 0, 0] := by decide +kernel
theorem off6_eq : ∀ t : Trip, k0_off6 (wd (t.val + 1)) = ![(slot (t.val + 1)).val] := by decide +kernel
theorem off7_eq : ∀ t : Trip, k0_off7 (wd t.val) = ![(slot t.val).val, 0, 0] := by decide +kernel
theorem off9_eq : ∀ t : Trip, k0_off9 (wd t.val) = ![(slot t.val).val] := by decide +kernel
theorem off10_eq : ∀ t : Trip, k0_off10 (wd t.val) = ![(slot t.val).val, 0, 0] := by decide +kernel
theorem off11_eq : ∀ t : Trip, k0_off11 (wd t.val) = ![(slot t.val).val, 0, 0] := by decide +kernel
theorem off12_eq : ∀ t : Trip, k0_off12 (wd t.val) = ![(slot t.val).val, 0, 0] := by decide +kernel
theorem off14_eq : ∀ t : Trip, k0_off14 (wd t.val) = ![(slot t.val).val] := by decide +kernel
theorem off15_eq : ∀ t : Trip, k0_off15 (wd (t.val - 1)) = ![(slot (t.val - 1)).val, 0, 0] := by decide +kernel
theorem off17_eq : ∀ t : Trip, k0_off17 (wd (t.val - 1)) = ![(slot (t.val - 1)).val] := by decide +kernel
theorem off18_eq : k0_off18 (wd 49) = ![(slot 49).val, 0, 0] := by decide +kernel
theorem off20_eq : k0_off20 (wd 49) = ![(slot 49).val] := by decide +kernel
theorem off21_eq : k0_off21 (wd 49) = ![(slot 49).val, 0, 0] := by decide +kernel

/-! ## Chunks -/

theorem off2_eq : ∀ i : grid0.Coords, k0_off2 i = ![0, 128 * (chunkNo i 0).val] := by decide +kernel
theorem off5_eq : ∀ (i : grid0.Coords) (t : Fin 49), k0_off5 i (wd t.val) = ![0, 128 * (chunkNo i t.succ).val] := by decide +kernel
theorem off8_eq : ∀ (i : grid0.Coords) (t : Fin 50), k0_off8 i (wd t.val) = ![0, 128 * (chunkNo i t).val] := by decide +kernel
theorem off13_eq : ∀ (i : grid0.Coords) (t : Fin 50), k0_off13 i (wd t.val) = ![128 * (chunkNo i t).val, 0] := by decide +kernel
theorem off16_eq : ∀ (i : grid0.Coords) (t : Fin 49), k0_off16 i (wd (t.val + 1)) = ![128 * (chunkNo i t.castSucc).val, 0] := by decide +kernel
theorem off19_eq : ∀ i : grid0.Coords, k0_off19 i (wd 0) = ![128 * (chunkNo i 49).val, 0] := by decide +kernel

/-! ## Which steps a trip takes -/

theorem cond1_iff : ∀ (i : grid0.Coords) (t : Trip), k0_cond1 i t (wd t.val) = 1#1 ↔ t.val < 49 := by decide +kernel
theorem cond2_true : ∀ (i : grid0.Coords) (t : Trip), k0_cond2 i t (wd t.val) = 1#1 := by decide +kernel
theorem cond5_true : ∀ (i : grid0.Coords) (t : Trip), k0_cond5 i t (wd t.val) = 1#1 := by decide +kernel
theorem cond7_iff : ∀ (i : grid0.Coords) (t : Trip), k0_cond7 i t (wd t.val) = 1#1 ↔ 1 ≤ t.val := by decide +kernel

/-! ## The side conditions the program assumes -/

theorem chk1_true : ∀ (i : grid0.Coords) (t : Trip), k0_chk1 i t (wd (t.val + 1)) (wd t.val) (wd t.val) (wd (t.val - 1)) (wd t.val) := by decide +kernel
theorem chk2_true : ∀ t : Trip, k0_chk2 (wd t.val) := by decide +kernel
theorem chk3_true : ∀ t : Trip, k0_chk3 (wd t.val) := by decide +kernel
theorem chk4_true : k0_chk4 (wd 49) := by decide +kernel
theorem chk5_true : ∀ i : grid0.Coords, k0_chk5 i (wd 0) := by decide +kernel

end Cert.Proof.GatherK

end

end
-- ==== Proof.Slots.lean ====
/-
  The pieces of memory one tile works on: the two slots of its index scratch, the two slots of its row scratch, the
  chunk of the index array and the chunk of the result at a number out of 1600, and the semaphores of the transfers
  between them; which elements of their buffers they are, and what reading one gives at an index.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.ValueLayout
public import Idealize.ShloMosaic.Lib.Pointwise.Index

@[expose] public section

noncomputable section

namespace Cert.Proof.GatherK

open Cert.KernelIdeal Cert.KernelIdeal.Gen
open Idealize.ShloMosaic

variable {F : FTy → Type}

/-! ## The memory -/

abbrev tabV : Memref sig .scVector .hbm S100000x128 .f32 := Memref.whole main_arg3_scv
abbrev idxV : Memref sig .scVector .hbm S1x204800 .i32 := Memref.whole main_v25_scv
abbrev outV : Memref sig .scVector .hbm S204800x128 .f32 := Memref.whole main_v26_scv
abbrev ibufV : Memref sig .scVector .vmem S2x1x128 .i32 := Memref.whole cc0_scoped0
abbrev rbufV : Memref sig .scVector .vmem S2x128x128 .f32 := Memref.whole cc0_scoped2

theorem islot_inb : ∀ b : Fin 2, ∀ a, (![b.val, 0, 0] : Fin 3 → ℕ) a + S1x1x128.size a ≤ S2x1x128.size a := by decide +kernel
theorem rslot_inb : ∀ b : Fin 2, ∀ a, (![b.val, 0, 0] : Fin 3 → ℕ) a + S1x128x128.size a ≤ S2x128x128.size a := by decide +kernel
theorem sem_inb : ∀ b : Fin 2, ∀ a, (![b.val] : Fin 1 → ℕ) a + S1.size a ≤ S2.size a := by decide +kernel
theorem ichunk_inb : ∀ n : Fin 1600, ∀ a, (![0, 128 * n.val] : Fin 2 → ℕ) a + S1x128.size a ≤ S1x204800.size a := by decide +kernel
theorem ochunk_inb : ∀ n : Fin 1600, ∀ a, (![128 * n.val, 0] : Fin 2 → ℕ) a + S128x128.size a ≤ S204800x128.size a := by decide +kernel

abbrev islotRect (b : Fin 2) : Rect S2x1x128 := Rect.unit (s := S2x1x128) ![b.val, 0, 0] S1x1x128.size (islot_inb b)
abbrev rslotRect (b : Fin 2) : Rect S2x128x128 := Rect.unit (s := S2x128x128) ![b.val, 0, 0] S1x128x128.size (rslot_inb b)
abbrev ichunkRect (n : Fin 1600) : Rect S1x204800 := Rect.unit (s := S1x204800) ![0, 128 * n.val] S1x128.size (ichunk_inb n)
abbrev ochunkRect (n : Fin 1600) : Rect S204800x128 := Rect.unit (s := S204800x128) ![128 * n.val, 0] S128x128.size (ochunk_inb n)

/-- Slot `b` of the index scratch, a row of 128 words. -/
abbrev islot (b : Fin 2) : Memref sig .scVector .vmem S1x128 .i32 :=
  (ibufV.slice (islotRect b) (fun _ => rfl)).squeeze S1x128 squeezes_S1x1x128_S1x128
/-- Slot `b` of the row scratch, 128 rows. -/
abbrev rslot (b : Fin 2) : Memref sig .scVector .vmem S128x128 .f32 :=
  (rbufV.slice (rslotRect b) (fun _ => rfl)).squeeze S128x128 squeezes_S1x128x128_S128x128
/-- Chunk `n` of the index array. -/
abbrev ichunk (n : Fin 1600) : Memref sig .scVector .hbm S1x128 .i32 := idxV.slice (ichunkRect n) (fun _ => rfl)
/-- Chunk `n` of the result. -/
abbrev ochunk (n : Fin 1600) : Memref sig .scVector .hbm S128x128 .f32 := outV.slice (ochunkRect n) (fun _ => rfl)
/-- The whole table, as the gather names it. -/
abbrev tabAll : Memref sig .scVector .hbm S100000x128 .f32 :=
  tabV.slice (Rect.unit (s := S100000x128) ![0, 0] S100000x128.size inb_S100000x128_S100000x128_0_0) (fun _ => rfl)
/-- Slot `b` of the index scratch as the gather's list of 128 row numbers. -/
abbrev ilist (b : Fin 2) : Memref sig .scVector .vmem S128 .i32 :=
  ((islot b).slice (Rect.unit (s := S1x128) ![0, 0] S1x128.size inb_S1x128_S1x128_0_0) (fun _ => rfl)).squeeze S128 squeezes_S1x128_S128
/-- The semaphore of the fetches into index slot `b`. -/
abbrev isem (b : Fin 2) : DmaSem sig :=
  ((cc0_scoped1.slice (Rect.unit (s := S2) ![b.val] S1.size (sem_inb b))).squeeze S_ squeezes_S1_S_).sem
/-- The semaphore of the copies out of row slot `b`. -/
abbrev osem (b : Fin 2) : DmaSem sig :=
  ((cc0_scoped3.slice (Rect.unit (s := S2) ![b.val] S1.size (sem_inb b))).squeeze S_ squeezes_S1_S_).sem
/-- The semaphore of the gathers. -/
abbrev gsem : DmaSem sig := cc0_scoped4.sem

theorem isem_0 : isem 0 = (0 : Fin 5) := by decide +kernel
theorem isem_1 : isem 1 = (1 : Fin 5) := by decide +kernel
theorem osem_0 : osem 0 = (2 : Fin 5) := by decide +kernel
theorem osem_1 : osem 1 = (3 : Fin 5) := by decide +kernel
theorem gsem_eq : gsem = (4 : Fin 5) := by decide +kernel

/-! ## Which elements they are -/

abbrev islotSet (b : Fin 2) : Finset S2x1x128.Idx := (islot b).view.set
abbrev rslotSet (b : Fin 2) : Finset S2x128x128.Idx := (rslot b).view.set
abbrev ichunkSet (n : Fin 1600) : Finset S1x204800.Idx := (ichunk n).view.set
abbrev ochunkSet (n : Fin 1600) : Finset S204800x128.Idx := (ochunk n).view.set

theorem islotSet_eq (b : Fin 2) : islotSet b = (islotRect b).set := by
  show (((View.whole cc0_scoped0).slice (islotRect b)).reshape S1x128 _).set = _
  rw [View.set_reshape]; exact View.set_slice_whole _ _
theorem rslotSet_eq (b : Fin 2) : rslotSet b = (rslotRect b).set := by
  show (((View.whole cc0_scoped2).slice (rslotRect b)).reshape S128x128 _).set = _
  rw [View.set_reshape]; exact View.set_slice_whole _ _
theorem ochunkSet_eq (n : Fin 1600) : ochunkSet n = (ochunkRect n).set := View.set_slice_whole _ _

theorem islot_disjoint : ∀ b ∈ (Finset.univ : Finset (Fin 2)), ∀ b' ∈ (Finset.univ : Finset (Fin 2)), b ≠ b' → Disjoint (islotSet b) (islotSet b') := by
  intro b _ b' _ h
  rw [islotSet_eq, islotSet_eq]
  refine Rect.disjoint_of_separated _ _ (0 : Fin 3) ?_
  have h' : b.val ≠ b'.val := fun e => h (Fin.ext e)
  show (1 = 0 ∨ b.val + 1 * (1 - 1) < b'.val) ∨ (1 = 0 ∨ b'.val + 1 * (1 - 1) < b.val)
  omega
theorem rslot_disjoint : ∀ b ∈ (Finset.univ : Finset (Fin 2)), ∀ b' ∈ (Finset.univ : Finset (Fin 2)), b ≠ b' → Disjoint (rslotSet b) (rslotSet b') := by
  intro b _ b' _ h
  rw [rslotSet_eq, rslotSet_eq]
  refine Rect.disjoint_of_separated _ _ (0 : Fin 3) ?_
  have h' : b.val ≠ b'.val := fun e => h (Fin.ext e)
  show (1 = 0 ∨ b.val + 1 * (1 - 1) < b'.val) ∨ (1 = 0 ∨ b'.val + 1 * (1 - 1) < b.val)
  omega
theorem ochunk_disjoint : ∀ n ∈ (Finset.univ : Finset (Fin 1600)), ∀ n' ∈ (Finset.univ : Finset (Fin 1600)), n ≠ n' → Disjoint (ochunkSet n) (ochunkSet n') := by
  intro n _ n' _ h
  rw [ochunkSet_eq, ochunkSet_eq]
  refine Rect.disjoint_of_separated _ _ (0 : Fin 2) ?_
  have h' : n.val ≠ n'.val := fun e => h (Fin.ext e)
  show (128 = 0 ∨ 128 * n.val + 1 * (128 - 1) < 128 * n'.val) ∨ (128 = 0 ∨ 128 * n'.val + 1 * (128 - 1) < 128 * n.val)
  omega

theorem islot_cover : (Finset.univ : Finset (Fin 2)).biUnion islotSet = Finset.univ := by
  ext x
  simp only [Finset.mem_biUnion, Finset.mem_univ, true_and, iff_true]
  refine ⟨(x 0 : Fin 2), ?_⟩
  rw [islotSet_eq (x 0 : Fin 2), Rect.mem_set_unit]
  intro a
  match a with
  | ⟨0, _⟩ => exact ⟨le_refl _, Nat.lt_succ_self _⟩
  | ⟨1, h⟩ => exact ⟨Nat.zero_le _, by have := (x ⟨1, h⟩).isLt; exact lt_of_lt_of_eq this (Nat.zero_add _).symm⟩
  | ⟨2, h⟩ => exact ⟨Nat.zero_le _, by have := (x ⟨2, h⟩).isLt; exact lt_of_lt_of_eq this (Nat.zero_add _).symm⟩
theorem rslot_cover : (Finset.univ : Finset (Fin 2)).biUnion rslotSet = Finset.univ := by
  ext x
  simp only [Finset.mem_biUnion, Finset.mem_univ, true_and, iff_true]
  refine ⟨(x 0 : Fin 2), ?_⟩
  rw [rslotSet_eq (x 0 : Fin 2), Rect.mem_set_unit]
  intro a
  match a with
  | ⟨0, _⟩ => exact ⟨le_refl _, Nat.lt_succ_self _⟩
  | ⟨1, h⟩ => exact ⟨Nat.zero_le _, by have := (x ⟨1, h⟩).isLt; exact lt_of_lt_of_eq this (Nat.zero_add _).symm⟩
  | ⟨2, h⟩ => exact ⟨Nat.zero_le _, by have := (x ⟨2, h⟩).isLt; exact lt_of_lt_of_eq this (Nat.zero_add _).symm⟩
theorem ochunk_cover : (Finset.univ : Finset (Fin 1600)).biUnion ochunkSet = Finset.univ := by
  ext x
  simp only [Finset.mem_biUnion, Finset.mem_univ, true_and, iff_true]
  have hx : (x 0).val < 204800 := (x 0).isLt
  refine ⟨⟨(x 0).val / 128, by omega⟩, ?_⟩
  rw [ochunkSet_eq, Rect.mem_set_unit]
  intro a
  match a with
  | ⟨0, _⟩ =>
    show 128 * ((x 0).val / 128) ≤ (x 0).val ∧ (x 0).val < 128 * ((x 0).val / 128) + 128
    omega
  | ⟨1, h⟩ => exact ⟨Nat.zero_le _, by have := (x ⟨1, h⟩).isLt; exact lt_of_lt_of_eq this (Nat.zero_add _).symm⟩

/-- The gather's list has the elements of its slot. -/
theorem ilist_set (b : Fin 2) : (ilist b).view.set = islotSet b := by
  show ((((islot b).view).slice (Rect.unit (s := S1x128) ![0, 0] S1x128.size inb_S1x128_S1x128_0_0)).reshape S128 _).set = _
  rw [View.set_reshape, View.set_slice]
  have h : (Rect.unit (s := S1x128) ![0, 0] S1x128.size inb_S1x128_S1x128_0_0).set = Finset.univ := by
    ext x
    rw [Rect.mem_set_unit]
    simp only [Finset.mem_univ, iff_true]
    intro a
    match a with
    | ⟨0, h⟩ => exact ⟨Nat.zero_le _, by have := (x ⟨0, h⟩).isLt; exact lt_of_lt_of_eq this (Nat.zero_add _).symm⟩
    | ⟨1, h⟩ => exact ⟨Nat.zero_le _, by have := (x ⟨1, h⟩).isLt; exact lt_of_lt_of_eq this (Nat.zero_add _).symm⟩
  rw [h]; rfl

/-- The gather's table has every element of the table. -/
theorem tabAll_set : tabAll.view.set = Finset.univ := by
  refine (View.set_slice_whole _ _).trans ?_
  ext x
  rw [Rect.mem_set_unit]
  simp only [Finset.mem_univ, iff_true]
  intro a
  match a with
  | ⟨0, h⟩ => exact ⟨Nat.zero_le _, by have := (x ⟨0, h⟩).isLt; exact lt_of_lt_of_eq this (Nat.zero_add _).symm⟩
  | ⟨1, h⟩ => exact ⟨Nat.zero_le _, by have := (x ⟨1, h⟩).isLt; exact lt_of_lt_of_eq this (Nat.zero_add _).symm⟩

/-! ## Indices -/

/-- The index of a list of 128. -/
def atL (a : Fin 128) : S128.Idx := ix1 a
/-- The index of a row of 128 words. -/
def atW (a : Fin 128) : S1x128.Idx := ix2 0 a
/-- The index of the index array. -/
def atI (a : Fin 204800) : S1x204800.Idx := ix2 0 a
/-- The index of the table. -/
def atT (r : Fin 100000) (c : Fin 128) : S100000x128.Idx := ix2 r c
/-- The index of the result. -/
def atO (r : Fin 204800) (c : Fin 128) : S204800x128.Idx := ix2 r c
/-- Place `k` of chunk `n`. -/
def place (n : Fin 1600) (k : Fin 128) : Fin 204800 := ⟨128 * n.val + k.val, by have := n.isLt; have := k.isLt; omega⟩

/-! ## What they read -/

/-- Word `k` of chunk `n` of the index array. -/
theorem ichunk_read (n : Fin 1600) (f : S1x204800.Idx → Elt F .i32) (x : S1x128.Idx) :
    (ichunk n).view.read (Elt F) f x = f (atI (place n (x 1))) := by
  rw [View.read_apply]
  refine (cast_eq _ _).trans (congrArg f ?_)
  funext a
  match a with
  | ⟨0, _⟩ => exact Subsingleton.elim (α := Fin 1) _ _
  | ⟨1, _⟩ => exact Fin.ext (by show 128 * n.val + 1 * (x 1).val = 128 * n.val + (x 1).val; omega)

/-- Entry `k` of the list is word `k` of its slot. -/
theorem ilist_read (b : Fin 2) (f : S2x1x128.Idx → Elt F .i32) (k : S128.Idx) :
    (ilist b).view.read (Elt F) f k = (islot b).view.read (Elt F) f (atW (k 0)) := by
  rw [View.read_apply, View.read_apply]
  refine congrArg (fun j => cast _ (f ((islot b).view.emb j))) ?_
  have e : Shape.reshapeEquiv (squeezes_S1x128_S128.numel_eq) k = atW (k 0) :=
    Shape.reshapeEquiv_eq_of_rowMajor _ (by
      refine (Shape.rowMajor_val_two _).trans (Eq.trans ?_ (Shape.rowMajor_val_one k).symm)
      show 0 * 128 + (k 0).val = (k 0).val
      omega)
  show (Rect.unit (s := S1x128) ![0, 0] S1x128.size inb_S1x128_S1x128_0_0).emb (Shape.reshapeEquiv (squeezes_S1x128_S128.numel_eq) k) = _
  rw [e]
  funext a
  match a with
  | ⟨0, _⟩ => exact Subsingleton.elim (α := Fin 1) _ _
  | ⟨1, _⟩ => exact Fin.ext (by show 0 + 1 * (k 0).val = (k 0).val; omega)

/-- The gather's table reads as the table. -/
theorem tabAll_read (f : S100000x128.Idx → Elt F .f32) : tabAll.view.read (Elt F) f = f := by
  funext x
  rw [View.read_apply]
  refine (cast_eq _ _).trans (congrArg f ?_)
  funext a
  match a with
  | ⟨0, h⟩ => exact Fin.ext (by show 0 + 1 * (x ⟨0, h⟩).val = _; omega)
  | ⟨1, h⟩ => exact Fin.ext (by show 0 + 1 * (x ⟨1, h⟩).val = _; omega)

/-- Where element `x` of chunk `n` sits in the result. -/
theorem ochunk_emb (n : Fin 1600) (x : S128x128.Idx) :
    (ochunk n).view.emb x = atO (place n (x 0)) (x 1) := by
  funext a
  match a with
  | ⟨0, _⟩ => exact Fin.ext (by show 128 * n.val + 1 * (x 0).val = 128 * n.val + (x 0).val; omega)
  | ⟨1, _⟩ => exact Fin.ext (by show 0 + 1 * (x 1).val = (x 1).val; omega)

/-! ## What the tile computes -/

/-- The row a word names (out of range, some row). -/
def rowOf (w : BitVec 32) : Fin 100000 := ⟨w.toNat % 100000, Nat.mod_lt _ (by decide)⟩

/-- The whole result: each row the table's row that the index array names there. -/
def gathered (T : S100000x128.Idx → Elt F .f32) (I : S1x204800.Idx → Elt F .i32) : S204800x128.Idx → Elt F .f32 :=
  fun j => T (atT (rowOf (I (atI (j 0)))) (j 1))

/-- The rows of chunk `n`. -/
def chunkRows (T : S100000x128.Idx → Elt F .f32) (I : S1x204800.Idx → Elt F .i32) (n : Fin 1600) : S128x128.Idx → Elt F .f32 :=
  fun x => gathered T I ((ochunk n).view.emb x)

/-- Writing the rows of chunk `n` over the chunk leaves the whole result's elements there. -/
theorem write_chunk (T : S100000x128.Idx → Elt F .f32) (I : S1x204800.Idx → Elt F .i32) (n : Fin 1600) (f : S204800x128.Idx → Elt F .f32) :
    ∀ j ∈ ochunkSet n, (ochunk n).view.write (Elt F) f (chunkRows T I n) Finset.univ j = gathered T I j := by
  intro j hj
  obtain ⟨x, -, rfl⟩ := Finset.mem_map.mp hj
  rw [View.write_emb_of_mem _ _ (Finset.mem_univ x)]
  exact cast_eq _ _

/-- The gather at a list that holds chunk `n` of the index array delivers the rows of chunk `n`. -/
theorem payload_eq (T : S100000x128.Idx → Elt F .f32) (I : S1x204800.Idx → Elt F .i32) (n : Fin 1600) (b : Fin 2)
    (f : S2x1x128.Idx → Elt F .i32) (hf : (islot b).view.read (Elt F) f = (ichunk n).view.read (Elt F) I)
    (hn : S128.numel = S128x128.size gathers_S100000x128_S128x128.axis')
    (hin : ∀ x, ((ilist b).view.read (Elt F) f x).toNat < S100000x128.size gathers_S100000x128_S128x128.axis) :
    SparseCore.gatherPayload gathers_S100000x128_S128x128 (tabAll.view.read (Elt F) T) (SparseCore.rows ((ilist b).view.read (Elt F) f) hn hin)
      = chunkRows T I n := by
  funext x
  unfold SparseCore.gatherPayload chunkRows gathered
  rw [tabAll_read, ochunk_emb]
  refine congrArg T ?_
  have hk : S128.rowMajor.symm ((x gathers_S100000x128_S128x128.axis').cast hn.symm) = atL (x 0) := by
    rw [Equiv.symm_apply_eq]
    refine Fin.ext ?_
    exact (Shape.rowMajor_val_one (atL (x 0))).symm
  have hw : (ilist b).view.read (Elt F) f (S128.rowMajor.symm ((x gathers_S100000x128_S128x128.axis').cast hn.symm))
      = I (atI (place n (x 0))) := by
    rw [hk, ilist_read, hf, ichunk_read]; rfl
  funext a
  match a with
  | ⟨0, _⟩ =>
    refine (Shape.Gathers.idx_axis gathers_S100000x128_S128x128 _ x).trans (Fin.ext ?_)
    have hl := hin (S128.rowMajor.symm ((x gathers_S100000x128_S128x128.axis').cast hn.symm))
    show ((ilist b).view.read (Elt F) f (S128.rowMajor.symm ((x gathers_S100000x128_S128x128.axis').cast hn.symm))).toNat = _
    rw [hw] at hl ⊢
    exact (Nat.mod_eq_of_lt hl).symm
  | ⟨1, _⟩ => exact Fin.ext (Shape.Gathers.idx_of_ne gathers_S100000x128_S128x128 _ x (1 : Fin 2) (by decide))

/-- The list's words are row numbers when the index array's are. -/
theorem list_inRange (I : S1x204800.Idx → Elt F .i32) (hI : ∀ j, (I j).toNat < 100000) (n : Fin 1600) (b : Fin 2)
    (f : S2x1x128.Idx → Elt F .i32) (hf : (islot b).view.read (Elt F) f = (ichunk n).view.read (Elt F) I) :
    ∀ x, ((ilist b).view.read (Elt F) f x).toNat < S100000x128.size gathers_S100000x128_S128x128.axis := by
  intro x
  rw [ilist_read, hf, ichunk_read]
  exact hI _

end Cert.Proof.GatherK

end

end
-- ==== Proof.Steps.lean ====
/-
  What a tile holds between the steps of its loop, and the steps: a fetch of index words issued and awaited, a gather of
  128 rows, a write-back of them issued and awaited. Each step's program is stated at the offsets the program computes,
  with an equation that says which slot or chunk they name.
-/
module

public import proofs.«01_k».proof.Proof.Slots
public import Idealize.ShloMosaic.Lib.StableHlo.Run
public import Idealize.ShloMosaic.Lib.Pipeline.Kit
public import Idealize.ShloMosaic.Lib.Tactic

@[expose] public section

noncomputable section

namespace Cert.Proof.GatherK

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev tLoc (d : Dev nD) : Loc nD τ sig := (SparseCore.T d).loc main_arg3
abbrev iLoc (d : Dev nD) : Loc nD τ sig := (SparseCore.T d).loc main_v25
abbrev oLoc (d : Dev nD) : Loc nD τ sig := (SparseCore.T d).loc main_v26

abbrev cV (L : grid0.Coords) : Fin τ.nSC := (L 0).castLE hcore0
abbrev jV (L : grid0.Coords) : Fin τ.nSub := (L 1).castLE hsub0
/-- The tile at coordinates `L`. -/
abbrev thr (d : Dev nD) (L : grid0.Coords) : Thread nD τ := V d (cV L) (jV L)

theorem islot_credit (b : Fin 2) : 0 < (islot b).view.dmaCredit := View.dmaCredit_pos _ (by decide)
theorem rslot_credit (b : Fin 2) : 0 < (rslot b).view.dmaCredit := View.dmaCredit_pos _ (by decide)
theorem ochunk_credit (n : Fin 1600) : 0 < (ochunk n).view.dmaCredit := View.dmaCredit_pos _ (by decide)
theorem rows_pos : 0 < S128x128.numel := by decide

section Steps

variable (d : Dev nD) (L : grid0.Coords)
variable (T : S100000x128.Idx → Elt F .f32) (I : S1x204800.Idx → Elt F .i32)

/-! ## What is held -/

/-- Index slot `b`, at some words. -/
abbrev islotPts (b : Fin 2) (f : S2x1x128.Idx → Elt F .i32) : sProp 𝕄 := (islot b).view.loc (thr d L) ↦[islotSet b]{fullShare} f
/-- Row slot `b`, at some rows. -/
abbrev rslotPts (b : Fin 2) (f : S2x128x128.Idx → Elt F .f32) : sProp 𝕄 := (rslot b).view.loc (thr d L) ↦[rslotSet b]{fullShare} f
/-- A share of the index array. -/
abbrev idxPts (q : PosShare TreeShare) : sProp 𝕄 := iLoc d ↦{q} I
/-- Chunk `n` of the result, at the contents `f`. -/
abbrev chunkPts (n : Fin 1600) (f : S204800x128.Idx → Elt F .f32) : sProp 𝕄 := oLoc d ↦[ochunkSet n]{fullShare} f

/-- Index slot `b` at rest: its words, its semaphore at zero, its share of the index array. -/
def FreeI (b : Fin 2) (q : PosShare TreeShare) : sProp 𝕄 :=
  iprop((∃ f, islotPts d L b f) ∗ semVal (thr d L, SemLoc.dma (isem b)) 0 ∗ idxPts d I q)

/-- A fetch of chunk `n` into index slot `b` in flight. -/
def InI (b : Fin 2) (n : Fin 1600) (q : PosShare TreeShare) : sProp 𝕄 :=
  iprop(Transfers.Flight countersEmb (thr d L) (SemLoc.dma (isem b)) (default : HIx 1) (islot b).view.dmaCredit
      iprop(∃ f, ⌜(islot b).view.read (Elt F) f = (ichunk n).view.read (Elt F) I⌝ ∗ islotPts d L b f ∗ (iLoc d ↦[ichunkSet n]{q} I))
    ∗ (iLoc d ↦[Finset.univ \ ichunkSet n]{q} I))

/-- Index slot `b` holding chunk `n`: its semaphore at zero, its share of the index array. -/
def HasI (b : Fin 2) (n : Fin 1600) (q : PosShare TreeShare) : sProp 𝕄 :=
  iprop((∃ f, ⌜(islot b).view.read (Elt F) f = (ichunk n).view.read (Elt F) I⌝ ∗ islotPts d L b f) ∗ semVal (thr d L, SemLoc.dma (isem b)) 0 ∗ idxPts d I q)

/-- Row slot `b` at rest: its rows, its semaphore at zero. -/
def FreeO (b : Fin 2) : sProp 𝕄 :=
  iprop((∃ f, rslotPts (F := F) d L b f) ∗ semVal (thr d L, SemLoc.dma (osem b)) 0)

/-- Row slot `b` holding the rows of chunk `n`. -/
def HasO (b : Fin 2) (n : Fin 1600) : sProp 𝕄 :=
  iprop((∃ f, ⌜(rslot b).view.read (Elt F) f = chunkRows T I n⌝ ∗ rslotPts (F := F) d L b f) ∗ semVal (thr d L, SemLoc.dma (osem b)) 0)

/-- The write-back of chunk `n` from row slot `b` in flight. -/
def OutO (b : Fin 2) (n : Fin 1600) : sProp 𝕄 :=
  Transfers.Flight countersEmb (thr d L) (SemLoc.dma (osem b)) (default : HIx 1) (ochunk n).view.dmaCredit
    iprop(chunkPts d n (gathered T I) ∗ ∃ f, rslotPts (F := F) d L b f)

/-- What the tile owes and may wait for: the tasks' debts are untouched and every wait so far recorded is one of
    its own. -/
def Owing (O : CellTallies nD τ sig (HIx 1)) (W : Waits sig (HIx 1)) : sProp 𝕄 :=
  iprop(∃ W', ⌜∀ p ∈ W', p ∈ W ∨ p.2 = none⌝ ∗ owes (thr d L) O W')

theorem HasI_free (b : Fin 2) (n : Fin 1600) (q : PosShare TreeShare) : (HasI d L I b n q : sProp 𝕄) ⊢ FreeI d L I b q := by
  unfold HasI FreeI
  iintro ⟨⟨%f, -, H⟩, Hv, Hi⟩
  isplitl [H]; · iexists f; iexact H
  isplitl [Hv] <;> iassumption

variable [FloatOps F]
variable {α : Type}

/-! ## The steps -/

/-- Issuing the fetch of chunk `n` into the resting slot `b`. -/
theorem step_fetch (b : Fin 2) (n : Fin 1600) (q : PosShare TreeShare)
    {oc : Fin 2 → ℕ} (hoc : oc = ![0, 128 * n.val]) {ob : Fin 3 → ℕ} (hob : ob = ![b.val, 0, 0]) {om : Fin 1 → ℕ} (hom : om = ![b.val])
    {ic : ∀ a, oc a + S1x128.size a ≤ S1x204800.size a} {ib : ∀ a, ob a + S1x1x128.size a ≤ S2x1x128.size a} {im : ∀ a, om a + S1.size a ≤ S2.size a}
    {h1 h2 h3} {k : PUnit → Prog (TpuEff nD τ sig (Elt F) Λ₀ (thr d L).2) α} {Q : α → sProp 𝕄} :
    (FreeI d L I b q : sProp 𝕄) ⊢ iprop((InI d L I b n q -∗ wp frame (wpE (defs₀ (F := F)) 𝒱₀ (thr d L) none) Set.univ (k ⟨⟩) Q)
      -∗ wp frame (wpE (defs₀ (F := F)) 𝒱₀ (thr d L) none) Set.univ
        (.op (.enqueueDma (idxV.slice (Rect.unit (s := S1x204800) oc S1x128.size ic) (fun _ => rfl))
          (.here ((ibufV.slice (Rect.unit (s := S2x1x128) ob S1x1x128.size ib) (fun _ => rfl)).squeeze S1x128 squeezes_S1x1x128_S1x128))
          (.dma ((cc0_scoped1.slice (Rect.unit (s := S2) om S1.size im)).squeeze S_ squeezes_S1_S_).sem) h1 h2 h3) k) Q) := by
  subst hoc hob hom
  unfold FreeI InI
  iintro ⟨⟨%f, Hs⟩, Hv, Hi⟩ Hk
  ihave Hi2 := (pointsTo_split_subset (q := q) (f := I) (S := Finset.univ) (Finset.subset_univ (ichunkSet n))).1 $$ Hi
  icases Hi2 with ⟨Hic, Hir⟩
  iapply (Transfers.wp_dmaLocal countersEmb 𝒱₀ (thr d L) none (src := ichunk n) (dst := islot b) (Sd := islotSet b) (fd := f) (fs := I) (q := q) (default : HIx 1)
    (islot b).view.dmaCredit rfl (islot_credit b) (Finset.Subset.refl _)) $$ [Hic Hs Hv]
  · isplitl [Hic]; · iexact Hic
    isplitl [Hs]; · iexact Hs
    iexact Hv
  iintro Hf
  iapply Hk
  isplitl [Hf]
  · iapply (Transfers.Flight_mono countersEmb (thr d L) (D' := iprop(∃ f, ⌜(islot b).view.read (Elt F) f = (ichunk n).view.read (Elt F) I⌝ ∗ islotPts d L b f ∗ (iLoc d ↦[ichunkSet n]{q} I))) ?_) $$ Hf
    iintro ⟨Ha, Hb⟩
    iexists ((islot b).view.write (Elt F) f ((ichunk n).view.read (Elt F) I) Finset.univ)
    isplitr
    · ipureintro; exact View.read_write_univ _ _
    isplitl [Ha]; · iexact Ha
    iexact Hb
  · iexact Hir

/-- One more wait of the tile's own recorded. -/
theorem owing_insert (O : CellTallies nD τ sig (HIx 1)) (W W' : Waits sig (HIx 1)) (hW : ∀ p ∈ W', p ∈ W ∨ p.2 = none) (g : SemLoc sig) :
    (owes (thr d L) O (insert (g, (default : HIx 1)) W') : sProp 𝕄) ⊢ Owing d L O W := by
  unfold Owing
  iintro H
  iexists _
  isplitr
  swap; · iexact H
  ipureintro; intro p hp
  rcases Finset.mem_insert.mp hp with hp | hp
  · exact .inr (hp ▸ rfl)
  · exact hW p hp

/-- Awaiting the fetch of chunk `n` into slot `b`. -/
theorem step_fetched (b : Fin 2) (n : Fin 1600) (q : PosShare TreeShare) (O : CellTallies nD τ sig (HIx 1)) (W : Waits sig (HIx 1))
    {oc : Fin 2 → ℕ} {ob : Fin 3 → ℕ} {om : Fin 1 → ℕ} (hom : om = ![b.val])
    {ic : ∀ a, oc a + S1x128.size a ≤ S1x204800.size a} {ib : ∀ a, ob a + S1x1x128.size a ≤ S2x1x128.size a} {im : ∀ a, om a + S1.size a ≤ S2.size a}
    {h1 h2} {k : PUnit → Prog (TpuEff nD τ sig (Elt F) Λ₀ (thr d L).2) α} {Q : α → sProp 𝕄} :
    iprop(InI d L I b n q ∗ Owing d L O W ∗ Transfers.MayWaits (thr d L) (default : HIx 1) O : sProp 𝕄)
      ⊢ iprop((iprop(HasI d L I b n q ∗ Owing d L O W) -∗ wp frame (wpE (defs₀ (F := F)) 𝒱₀ (thr d L) none) Set.univ (k ⟨⟩) Q)
      -∗ wp frame (wpE (defs₀ (F := F)) 𝒱₀ (thr d L) none) Set.univ
        (.op (.waitDma2 ((cc0_scoped1.slice (Rect.unit (s := S2) om S1.size im)).squeeze S_ squeezes_S1_S_).sem
          (idxV.slice (Rect.unit (s := S1x204800) oc S1x128.size ic) (fun _ => rfl))
          ((ibufV.slice (Rect.unit (s := S2x1x128) ob S1x1x128.size ib) (fun _ => rfl)).squeeze S1x128 squeezes_S1x1x128_S1x128) h1 h2) k) Q) := by
  subst hom
  unfold InI HasI
  conv_lhs => unfold Owing
  iintro ⟨⟨Hf, Hir⟩, ⟨%W', %hW, HO⟩, Hmw⟩ Hk
  iapply (Transfers.wp_waitLocalO countersEmb 𝒱₀ (thr d L) none (hsrc := h1) (hdst := h2) (default : HIx 1) (N := (islot b).view.dmaCredit) rfl) $$ [Hf HO Hmw]
  · isplitl [Hf]; · iexact Hf
    isplitl [HO]; · iexact HO
    iapply (Transfers.MayWaits.elim (SemLoc.dma (isem b))) $$ Hmw
  iintro ⟨⟨%f, %hf, Hs, Hic⟩, Hv, HO⟩
  iapply Hk
  isplitr [HO]
  · isplitl [Hs]
    · iexists f
      isplitr; · ipureintro; exact hf
      iexact Hs
    isplitl [Hv]; · iexact Hv
    iapply (pointsTo_split_subset (q := q) (f := I) (S := Finset.univ) (Finset.subset_univ (ichunkSet n))).2
    isplitl [Hic] <;> iassumption
  · iapply (owing_insert d L O W W' hW) $$ HO

/-- A gather into row slot `b'` by index slot `b` in flight. -/
def GatherFly (b b' : Fin 2) (n : Fin 1600) (q qt : PosShare TreeShare) : sProp 𝕄 :=
  iprop(Transfers.Flight countersEmb (thr d L) (SemLoc.dma gsem) (default : HIx 1) (rslot b').view.dmaCredit
      iprop((∃ f, ⌜(rslot b').view.read (Elt F) f = chunkRows T I n⌝ ∗ rslotPts (F := F) d L b' f) ∗ (tLoc d ↦{qt} T)
        ∗ (∃ f, ⌜(islot b).view.read (Elt F) f = (ichunk n).view.read (Elt F) I⌝ ∗ islotPts d L b f))
    ∗ semVal (thr d L, SemLoc.dma (isem b)) 0 ∗ idxPts d I q ∗ semVal (thr d L, SemLoc.dma (osem b')) 0)

/-- Issuing the gather of the rows that index slot `b` names into the resting row slot `b'`. -/
theorem step_gather (hI : ∀ j, (I j).toNat < 100000) (b b' : Fin 2) (n : Fin 1600) (q qt : PosShare TreeShare)
    {ob : Fin 3 → ℕ} (hob : ob = ![b.val, 0, 0]) {orr : Fin 3 → ℕ} (hor : orr = ![b'.val, 0, 0])
    {ib : ∀ a, ob a + S1x1x128.size a ≤ S2x1x128.size a} {ir : ∀ a, orr a + S1x128x128.size a ≤ S2x128x128.size a}
    {k : PUnit → Prog (TpuEff nD τ sig (Elt F) Λ₀ (thr d L).2) α} {Q : α → sProp 𝕄} :
    iprop(HasI d L I b n q ∗ FreeO d L b' ∗ (tLoc d ↦{qt} T) ∗ semVal (thr d L, SemLoc.dma gsem) 0 : sProp 𝕄)
      ⊢ iprop((GatherFly d L T I b b' n q qt -∗ wp frame (wpE (defs₀ (F := F)) 𝒱₀ (thr d L) none) Set.univ (k ⟨⟩) Q)
      -∗ wp frame (wpE (defs₀ (F := F)) 𝒱₀ (thr d L) none) Set.univ
        (SparseCore.enqueueIndirectGather (F := F) (p := (thr d L).2) rfl tabAll
          ((rbufV.slice (Rect.unit (s := S2x128x128) orr S1x128x128.size ir) (fun _ => rfl)).squeeze S128x128 squeezes_S1x128x128_S128x128)
          gathers_S100000x128_S128x128
          ((((ibufV.slice (Rect.unit (s := S2x1x128) ob S1x1x128.size ib) (fun _ => rfl)).squeeze S1x128 squeezes_S1x1x128_S1x128).slice
            (Rect.unit (s := S1x128) ![0, 0] S1x128.size inb_S1x128_S1x128_0_0) (fun _ => rfl)).squeeze S128 squeezes_S1x128_S128)
          rfl gsem (View.wordExact_bits rfl) rfl (Or.inl rfl) >>= k) Q) := by
  subst hob hor
  unfold HasI FreeO GatherFly
  iintro ⟨⟨⟨%f, %hf, Hs⟩, Hv, Hi⟩, ⟨⟨%g, Hr⟩, Hw⟩, Ht, Hg⟩ Hk
  ihave Hts := (Entails.of_eq (show (tLoc d ↦{qt} T : sProp 𝕄) = tLoc d ↦[tabAll.view.set]{qt} T by rw [tabAll_set])) $$ Ht
  ihave Hss := (Entails.of_eq (show (islotPts d L b f : sProp 𝕄) = (ilist b).view.loc (thr d L) ↦[(ilist b).view.set]{fullShare} f by rw [ilist_set])) $$ Hs
  have hN : ∀ h : S100000x128.Gathers 0 S128x128, ∑ j, ((rslot b').slice (S128x128.rowRect h.axis' j) (S128x128.stride_rowRect h.axis' j)).view.dmaCredit
      = (rslot b').view.dmaCredit :=
    fun h => SparseCore.sum_rowCredit_eq_dmaCredit (rslot b') h.axis' fun _ => rfl
  iapply (SparseCore.wp_indirectGatherLocal countersEmb 𝒱₀ (thr d L) none (src := tabAll) (dst := rslot b') (offs := ilist b) (hg := gathers_S100000x128_S128x128)
      (q := qt) (fs := T) (fd := g) (fo := f) (default : HIx 1)
      (rslot b').view.dmaCredit (hN _) rows_pos (list_inRange I hI n b f hf)) $$ [Hts Hr Hss Hg]
  · isplitl [Hts]; · iexact Hts
    isplitl [Hr]; · iexact Hr
    isplitl [Hss]; · iexact Hss
    iexact Hg
  iintro Hfl
  iapply Hk
  isplitl [Hfl]
  · iapply (Transfers.Flight_mono countersEmb (thr d L) (D' := iprop((∃ f, ⌜(rslot b').view.read (Elt F) f = chunkRows T I n⌝ ∗ rslotPts (F := F) d L b' f) ∗ (tLoc d ↦{qt} T)
        ∗ (∃ f, ⌜(islot b).view.read (Elt F) f = (ichunk n).view.read (Elt F) I⌝ ∗ islotPts d L b f))) ?_) $$ Hfl
    iintro ⟨Ha, Hb, Hc⟩
    isplitl [Ha]
    · iexists ((rslot b').view.write (Elt F) g (SparseCore.gatherPayload gathers_S100000x128_S128x128 (tabAll.view.read (Elt F) T)
        (SparseCore.rows ((ilist b).view.read (Elt F) f) rfl (list_inRange I hI n b f hf))) Finset.univ)
      isplitr
      · ipureintro; exact (View.read_write_univ _ _).trans (payload_eq T I n b f hf rfl _)
      iexact Ha
    isplitl [Hb]
    · iapply (Entails.of_eq (show (tLoc d ↦[tabAll.view.set]{qt} T : sProp 𝕄) = tLoc d ↦{qt} T by rw [tabAll_set])) $$ Hb
    iexists f
    isplitr; · ipureintro; exact hf
    iapply (Entails.of_eq (show ((ilist b).view.loc (thr d L) ↦[(ilist b).view.set]{fullShare} f : sProp 𝕄) = islotPts d L b f by rw [ilist_set])) $$ Hc
  isplitl [Hv]; · iexact Hv
  isplitl [Hi] <;> iassumption

/-- Awaiting the gather. -/
theorem step_gathered (b b' : Fin 2) (n : Fin 1600) (q qt : PosShare TreeShare) (O : CellTallies nD τ sig (HIx 1)) (W : Waits sig (HIx 1))
    {orr : Fin 3 → ℕ} {ir : ∀ a, orr a + S1x128x128.size a ≤ S2x128x128.size a} {h1 h2}
    {k : PUnit → Prog (TpuEff nD τ sig (Elt F) Λ₀ (thr d L).2) α} {Q : α → sProp 𝕄} :
    iprop(GatherFly d L T I b b' n q qt ∗ Owing d L O W ∗ Transfers.MayWaits (thr d L) (default : HIx 1) O : sProp 𝕄)
      ⊢ iprop((iprop(HasI d L I b n q ∗ HasO d L T I b' n ∗ (tLoc d ↦{qt} T) ∗ semVal (thr d L, SemLoc.dma gsem) 0 ∗ Owing d L O W)
          -∗ wp frame (wpE (defs₀ (F := F)) 𝒱₀ (thr d L) none) Set.univ (k ⟨⟩) Q)
      -∗ wp frame (wpE (defs₀ (F := F)) 𝒱₀ (thr d L) none) Set.univ
        (.op (.waitDma2 gsem tabAll
          ((rbufV.slice (Rect.unit (s := S2x128x128) orr S1x128x128.size ir) (fun _ => rfl)).squeeze S128x128 squeezes_S1x128x128_S128x128) h1 h2) k) Q) := by
  unfold GatherFly HasI HasO
  conv_lhs => unfold Owing
  iintro ⟨⟨Hf, Hv, Hi, Hw⟩, ⟨%W', %hW, HO⟩, Hmw⟩ Hk
  iapply (Transfers.wp_waitLocalO countersEmb 𝒱₀ (thr d L) none (hsrc := h1) (hdst := h2) (default : HIx 1) (N := (rslot b').view.dmaCredit) rfl) $$ [Hf HO Hmw]
  · isplitl [Hf]; · iexact Hf
    isplitl [HO]; · iexact HO
    iapply (Transfers.MayWaits.elim (SemLoc.dma gsem)) $$ Hmw
  iintro ⟨⟨Hr, Ht, Hs⟩, Hg, HO⟩
  iapply Hk
  isplitl [Hs Hv Hi]
  · isplitl [Hs]; · iexact Hs
    isplitl [Hv] <;> iassumption
  isplitl [Hr Hw]
  · isplitl [Hr] <;> iassumption
  isplitl [Ht]; · iexact Ht
  isplitl [Hg]; · iexact Hg
  iapply (owing_insert d L O W W' hW) $$ HO

/-- Issuing the write-back of chunk `n` from row slot `b`. -/
theorem step_put (b : Fin 2) (n : Fin 1600) (f₀ : S204800x128.Idx → Elt F .f32)
    {oc : Fin 2 → ℕ} (hoc : oc = ![128 * n.val, 0]) {ob : Fin 3 → ℕ} (hob : ob = ![b.val, 0, 0]) {om : Fin 1 → ℕ} (hom : om = ![b.val])
    {ic : ∀ a, oc a + S128x128.size a ≤ S204800x128.size a} {ib : ∀ a, ob a + S1x128x128.size a ≤ S2x128x128.size a} {im : ∀ a, om a + S1.size a ≤ S2.size a}
    {h1 h2 h3} {k : PUnit → Prog (TpuEff nD τ sig (Elt F) Λ₀ (thr d L).2) α} {Q : α → sProp 𝕄} :
    iprop(HasO d L T I b n ∗ chunkPts d n f₀ : sProp 𝕄) ⊢ iprop((OutO d L T I b n -∗ wp frame (wpE (defs₀ (F := F)) 𝒱₀ (thr d L) none) Set.univ (k ⟨⟩) Q)
      -∗ wp frame (wpE (defs₀ (F := F)) 𝒱₀ (thr d L) none) Set.univ
        (.op (.enqueueDma ((rbufV.slice (Rect.unit (s := S2x128x128) ob S1x128x128.size ib) (fun _ => rfl)).squeeze S128x128 squeezes_S1x128x128_S128x128)
          (.here (outV.slice (Rect.unit (s := S204800x128) oc S128x128.size ic) (fun _ => rfl)))
          (.dma ((cc0_scoped3.slice (Rect.unit (s := S2) om S1.size im)).squeeze S_ squeezes_S1_S_).sem) h1 h2 h3) k) Q) := by
  subst hoc hob hom
  unfold HasO OutO
  iintro ⟨⟨⟨%f, %hf, Hs⟩, Hv⟩, Hc⟩ Hk
  iapply (Transfers.wp_dmaLocal countersEmb 𝒱₀ (thr d L) none (src := rslot b) (dst := ochunk n) (Sd := ochunkSet n) (fd := f₀) (fs := f) (q := fullShare) (default : HIx 1)
    (ochunk n).view.dmaCredit rfl (ochunk_credit n) (Finset.Subset.refl _)) $$ [Hc Hs Hv]
  · isplitl [Hs]; · iexact Hs
    isplitl [Hc]; · iexact Hc
    iexact Hv
  iintro Hf
  iapply Hk
  iapply (Transfers.Flight_mono countersEmb (thr d L) (D' := iprop(chunkPts d n (gathered T I) ∗ ∃ f, rslotPts (F := F) d L b f)) ?_) $$ Hf
  iintro ⟨Ha, Hb⟩
  isplitl [Ha]
  · iapply (Entails.of_eq (pointsTo_congr fun j hj => (show (ochunk n).view.write (Elt F) f₀ ((rslot b).view.read (Elt F) f) Finset.univ j = gathered T I j by
      rw [hf]; exact write_chunk T I n f₀ j hj))) $$ Ha
  iexists f; iexact Hb

/-- Awaiting the write-back of chunk `n` from row slot `b`. -/
theorem step_written (b : Fin 2) (n : Fin 1600) (O : CellTallies nD τ sig (HIx 1)) (W : Waits sig (HIx 1))
    {oc : Fin 2 → ℕ} {ob : Fin 3 → ℕ} {om : Fin 1 → ℕ} (hom : om = ![b.val])
    {ic : ∀ a, oc a + S128x128.size a ≤ S204800x128.size a} {ib : ∀ a, ob a + S1x128x128.size a ≤ S2x128x128.size a} {im : ∀ a, om a + S1.size a ≤ S2.size a}
    {h1 h2} {k : PUnit → Prog (TpuEff nD τ sig (Elt F) Λ₀ (thr d L).2) α} {Q : α → sProp 𝕄} :
    iprop(OutO d L T I b n ∗ Owing d L O W ∗ Transfers.MayWaits (thr d L) (default : HIx 1) O : sProp 𝕄)
      ⊢ iprop((iprop(FreeO d L b ∗ chunkPts d n (gathered T I) ∗ Owing d L O W) -∗ wp frame (wpE (defs₀ (F := F)) 𝒱₀ (thr d L) none) Set.univ (k ⟨⟩) Q)
      -∗ wp frame (wpE (defs₀ (F := F)) 𝒱₀ (thr d L) none) Set.univ
        (.op (.waitDma2 ((cc0_scoped3.slice (Rect.unit (s := S2) om S1.size im)).squeeze S_ squeezes_S1_S_).sem
          ((rbufV.slice (Rect.unit (s := S2x128x128) ob S1x128x128.size ib) (fun _ => rfl)).squeeze S128x128 squeezes_S1x128x128_S128x128)
          (outV.slice (Rect.unit (s := S204800x128) oc S128x128.size ic) (fun _ => rfl)) h1 h2) k) Q) := by
  subst hom
  unfold OutO FreeO
  conv_lhs => unfold Owing
  iintro ⟨Hf, ⟨%W', %hW, HO⟩, Hmw⟩ Hk
  iapply (Transfers.wp_waitLocalO countersEmb 𝒱₀ (thr d L) none (hsrc := h1) (hdst := h2) (default : HIx 1) (N := (ochunk n).view.dmaCredit) rfl) $$ [Hf HO Hmw]
  · isplitl [Hf]; · iexact Hf
    isplitl [HO]; · iexact HO
    iapply (Transfers.MayWaits.elim (SemLoc.dma (osem b))) $$ Hmw
  iintro ⟨⟨Hc, Hs⟩, Hv, HO⟩
  iapply Hk
  isplitl [Hs Hv]
  · isplitl [Hs] <;> iassumption
  isplitl [Hc]; · iexact Hc
  iapply (owing_insert d L O W W' hW) $$ HO

end Steps

end Cert.Proof.GatherK

end

end
-- ==== Proof.Trip.lean ====
/-
  One trip of the tile's loop: while chunk `t` of the index words is awaited, chunk `t + 1` is being fetched; the rows of
  chunk `t` are gathered and their write-back is issued, and the write-back of chunk `t - 1` is awaited.
-/
module

public import proofs.«01_k».proof.Proof.Steps

@[expose] public section

noncomputable section

namespace Cert.Proof.GatherK

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The words a trip computes -/

/-- What the first part of trip `t` hands on. -/
def part1Words (L : grid0.Coords) (t : Trip) :
    Σ' (_ : k0_chk3 (wd t.val)) (_ : k0_chk2 (wd t.val)) (_ : k0_chk1 L t (wd (t.val + 1)) (wd t.val) (wd t.val) (wd (t.val - 1)) (wd t.val))
      (_ : BitVec 32) (_ : BitVec 1) (_ : BitVec 1) (_ : BitVec 32) (_ : BitVec 32) (_ : BitVec 32) (_ : BitVec 32), BitVec 1 :=
  have v5 := Scf.iv 0#32 1#32 t
  have v66 := Scalar.addi (wd t.val) (firstChunk L)
  have v68 := Scalar.select 1#1 (Scalar.subi (wd t.val) 1#32) (wd t.val)
  have v71 := Scalar.addi (Scalar.select (Scalar.cmpi .eq v68 4294967295#32) 49#32 v68) (firstChunk L)
  have v73 := Scalar.select 1#1 (Scalar.addi (wd t.val) 1#32) (wd t.val)
  have v76 := Scalar.addi (Scalar.select (Scalar.cmpi .eq v73 50#32) 0#32 v73) (firstChunk L)
  have v85 := Scalar.andi (Scalar.cmpi .ne v66 v76) (Scalar.xori (Scalar.cmpi .sge v5 49#32) 1#1)
  ⟨chk3_true t, chk2_true t, chk1_true L t, v5, Scalar.cmpi .eq v5 0#32, Scalar.cmpi .eq v5 49#32, v66, v71, v76,
    Scalar.select (Scalar.andi v85 1#1) (Scalar.addi (wd (t.val + 1)) 1#32) (wd (t.val + 1)), Scalar.cmpi .ne v66 v71⟩

/-- The words trip `t` carries on, from those of its first part. -/
def tripWords (t : Trip) (v64 v65 : BitVec 1) (v66 v71 v76 v91 : BitVec 32) : BitVec 32 × BitVec 32 × BitVec 32 × BitVec 32 × BitVec 32 :=
  (v91,
    Scalar.select (Scalar.ori (Scalar.cmpi .ne v66 v76) v65) (Scalar.addi (wd t.val) 1#32) (wd t.val),
    Scalar.select (Scalar.andi (Scalar.ori (Scalar.cmpi .ne v66 v76) v65) 1#1) (Scalar.addi (wd t.val) 1#32) (wd t.val),
    Scalar.select (Scalar.andi (Scalar.andi (Scalar.cmpi .ne v66 v71) (Scalar.xori v64 1#1)) 1#1) (Scalar.addi (wd (t.val - 1)) 1#32) (wd (t.val - 1)),
    Scalar.select (Scalar.cmpi .eq (Scalar.select 1#1 (Scalar.addi (wd t.val) 1#32) (wd t.val)) 50#32) 0#32 (Scalar.select 1#1 (Scalar.addi (wd t.val) 1#32) (wd t.val)))

/-- Trip `t` leaves the words of trip `t + 1`. -/
theorem tripWords_eq : ∀ (L : grid0.Coords) (t : Trip),
    tripWords t (part1Words L t).2.2.2.2.1 (part1Words L t).2.2.2.2.2.1 (part1Words L t).2.2.2.2.2.2.1 (part1Words L t).2.2.2.2.2.2.2.1
      (part1Words L t).2.2.2.2.2.2.2.2.1 (part1Words L t).2.2.2.2.2.2.2.2.2.1 = carried (t.val + 1) := by decide +kernel

section Trip

variable (d : Dev nD) (L : grid0.Coords)
variable (T : S100000x128.Idx → Elt F .f32) (I : S1x204800.Idx → Elt F .i32) (q : PosShare TreeShare)

/-! ## What is held between trips -/

/-- Chunk `n` of the tile. -/
def cn (n : ℕ) : Fin 1600 := chunkNo L ⟨min n 49, by omega⟩

/-- The share of the index array that fetches into slot `b` read. -/
def qs (b : Fin 2) : PosShare TreeShare := if b = 0 then q.left else q.right

/-- The index slot of chunk `t`: the chunk is on its way, or, past the last chunk, the slot is at rest. -/
def Cur (t : ℕ) : sProp 𝕄 := if t = 50 then FreeI d L I (slot t) (qs q (slot t)) else InI d L I (slot t) (cn L t) (qs q (slot t))

/-- The row slot before chunk `t`'s: the chunk before is being written back, or, before the first, the slot is at rest. -/
def Prev (t : ℕ) : sProp 𝕄 := if t = 0 then FreeO d L (slot (t + 1)) else OutO d L T I (slot (t + 1)) (cn L (t - 1))

/-- The chunks written back before trip `t`. -/
def doneSet (t : ℕ) : Finset (Fin 50) := Finset.univ.filter fun n => n.val + 1 < t
/-- The chunks trip `t` and those after it write. -/
def todoSet (t : ℕ) : Finset (Fin 50) := Finset.univ.filter fun n => t ≤ n.val

theorem todo_insert {t : ℕ} (h : t < 50) : todoSet t = insert (⟨t, h⟩ : Fin 50) (todoSet (t + 1)) := by
  ext n
  simp only [todoSet, Finset.mem_filter, Finset.mem_univ, true_and, Finset.mem_insert, Fin.ext_iff]
  omega
theorem todo_notMem {t : ℕ} (h : t < 50) : (⟨t, h⟩ : Fin 50) ∉ todoSet (t + 1) := by
  simp only [todoSet, Finset.mem_filter, Finset.mem_univ, true_and]
  omega
theorem done_insert {t : ℕ} (h : t < 50) : doneSet (t + 2) = insert (⟨t, h⟩ : Fin 50) (doneSet (t + 1)) := by
  ext n
  simp only [doneSet, Finset.mem_filter, Finset.mem_univ, true_and, Finset.mem_insert, Fin.ext_iff]
  omega
theorem done_notMem {t : ℕ} (h : t < 50) : (⟨t, h⟩ : Fin 50) ∉ doneSet (t + 1) := by
  simp only [doneSet, Finset.mem_filter, Finset.mem_univ, true_and]
  omega
theorem done_one : doneSet 1 = doneSet 0 := by
  ext n
  simp only [doneSet, Finset.mem_filter, Finset.mem_univ, true_and]
  omega

theorem slot_two (t : ℕ) : slot (t + 1 + 1) = slot t := Fin.ext (by simp only [slot]; omega)
theorem slot_pred {t : ℕ} (h : 1 ≤ t) : slot (t - 1) = slot (t + 1) := Fin.ext (by simp only [slot]; omega)
theorem cn_eq {t : ℕ} (h : t < 50) : cn L t = chunkNo L ⟨t, h⟩ := congrArg (chunkNo L) (Fin.ext (by show min t 49 = t; omega))

/-- The tile's chunks already written, at the gathered rows. -/
def Done (t : ℕ) : sProp 𝕄 := bigSep (doneSet t) fun n => chunkPts (F := F) d (chunkNo L n) (gathered T I)
/-- The tile's chunks still to be written, at the contents `f₀`. -/
def Todo (f₀ : S204800x128.Idx → Elt F .f32) (t : ℕ) : sProp 𝕄 := bigSep (todoSet t) fun n => chunkPts (F := F) d (chunkNo L n) f₀

variable [FloatOps F]

/-! ## The parts of a trip -/

/-- The first part of trip `t`: the fetch of the next chunk is issued if there is one. -/
theorem part1_wp (t : Trip) :
    (FreeI d L I (slot (t.val + 1)) (qs q (slot (t.val + 1))) : sProp 𝕄)
      ⊢ wp frame (wpE (defs₀ (F := F)) 𝒱₀ (thr d L) none) Set.univ
          (k0_part1 L tabV (Memref.isWhole_whole _) idxV (Memref.isWhole_whole _) outV (Memref.isWhole_whole _) ibufV (Memref.isWhole_whole _)
            cc0_scoped1 rbufV (Memref.isWhole_whole _) cc0_scoped3 cc0_scoped4 (firstChunk L) 0#32 1#32 t (wd (t.val + 1)) (wd t.val) (wd t.val) (wd (t.val - 1)) (wd t.val))
          (fun r => iprop(⌜r = part1Words L t⌝ ∗ Cur d L I q (t.val + 1))) := by
  have ht := trip_lt t
  rw [k0_part1_eq_skeleton]
  unfold k0_part1_skel
  have c1 := chk1_true L t
  have c2 := chk2_true t
  have c3 := chk3_true t
  iintro H
  unfold Cur
  by_cases h1 : t.val < 49
  · have q1 := (cond1_iff L t).mpr h1
    have ho5 : k0_off5 L (wd t.val) = ![0, 128 * (cn L (t.val + 1)).val] := by
      rw [cn_eq L (show t.val + 1 < 50 by omega)]; exact off5_eq L ⟨t.val, h1⟩
    rw [if_neg (by omega)]
    sl_exec
    iapply (step_fetch d L I (slot (t.val + 1)) (cn L (t.val + 1)) (qs q (slot (t.val + 1))) ho5 (off4_eq t) (off6_eq t)) $$ H
    iintro H
    sl_exec
    sl_step
    isplitr; · ipureintro; rfl
    iexact H
  · have q1 := (cond1_iff L t).not.mpr h1
    rw [if_pos (by omega)]
    sl_exec
    sl_step
    isplitr; · ipureintro; rfl
    iexact H

/-- The second part of trip `t`: the chunk's index words are awaited, the rows they name gathered. -/
theorem part2_wp (hI : ∀ j, (I j).toNat < 100000) (qt : PosShare TreeShare) (O : CellTallies nD τ sig (HIx 1)) (W : Waits sig (HIx 1)) (t : Trip)
    (c3 : k0_chk3 (wd t.val)) (c2 : k0_chk2 (wd t.val)) (c1 : k0_chk1 L t (wd (t.val + 1)) (wd t.val) (wd t.val) (wd (t.val - 1)) (wd t.val))
    (v5 : BitVec 32) (v64 v65 : BitVec 1) (v66 v71 v76 : BitVec 32) (v96 : BitVec 1) :
    iprop(Cur d L I q t.val ∗ FreeO d L (slot t.val) ∗ (tLoc d ↦{qt} T) ∗ semVal (thr d L, SemLoc.dma gsem) 0 ∗ Owing d L O W
        ∗ Transfers.MayWaits (thr d L) (default : HIx 1) O : sProp 𝕄)
      ⊢ wp frame (wpE (defs₀ (F := F)) 𝒱₀ (thr d L) none) Set.univ
          (k0_part2 L tabV (Memref.isWhole_whole _) idxV (Memref.isWhole_whole _) outV (Memref.isWhole_whole _) ibufV (Memref.isWhole_whole _)
            cc0_scoped1 rbufV (Memref.isWhole_whole _) cc0_scoped3 cc0_scoped4 t (wd (t.val + 1)) (wd t.val) (wd t.val) (wd (t.val - 1)) (wd t.val)
            c3 c2 c1 v5 v64 v65 v66 v71 v76 v96)
          (fun _ => iprop(FreeI d L I (slot t.val) (qs q (slot t.val)) ∗ HasO d L T I (slot t.val) (cn L t.val) ∗ (tLoc d ↦{qt} T)
            ∗ semVal (thr d L, SemLoc.dma gsem) 0 ∗ Owing d L O W)) := by
  have ht := trip_lt t
  rw [k0_part2_eq_skeleton]
  unfold k0_part2_skel
  have q2 := cond2_true L t
  unfold Cur
  rw [if_neg (by omega)]
  iintro ⟨H, Hr, Ht, Hg, HO, #Hmw⟩
  sl_exec
  iapply (step_fetched d L I (slot t.val) (cn L t.val) (qs q (slot t.val)) O W (off9_eq t)) $$ [H HO]
  · isplitl [H]; · iexact H
    isplitl [HO]; · iexact HO
    iexact Hmw
  iintro ⟨H, HO⟩
  sl_exec
  iapply (step_gather d L T I hI (slot t.val) (slot t.val) (cn L t.val) (qs q (slot t.val)) qt (off11_eq t) (off10_eq t)) $$ [H Hr Ht Hg]
  · isplitl [H]; · iexact H
    isplitl [Hr]; · iexact Hr
    isplitl [Ht] <;> iassumption
  iintro H
  sl_exec
  iapply (step_gathered d L T I (slot t.val) (slot t.val) (cn L t.val) (qs q (slot t.val)) qt O W) $$ [H HO]
  · isplitl [H]; · iexact H
    isplitl [HO]; · iexact HO
    iexact Hmw
  iintro ⟨H, Hr, Ht, Hg, HO⟩
  sl_exec
  sl_step
  isplitl [H]; · iapply (HasI_free d L I (slot t.val) (cn L t.val) (qs q (slot t.val))) $$ H
  isplitl [Hr]; · iexact Hr
  isplitl [Ht]; · iexact Ht
  isplitl [Hg] <;> iassumption

/-- The loop's body on this tile. -/
abbrev tripBody : Fin k0_t1_loop.trips → BitVec 32 × BitVec 32 × BitVec 32 × BitVec 32 × BitVec 32 →
    Prog (TpuEff nD τ sig (Elt F) Λ₀ (thr d L).2) (BitVec 32 × BitVec 32 × BitVec 32 × BitVec 32 × BitVec 32) :=
  k0_t1_body L tabV (Memref.isWhole_whole _) idxV (Memref.isWhole_whole _) outV (Memref.isWhole_whole _) ibufV (Memref.isWhole_whole _)
    cc0_scoped1 rbufV (Memref.isWhole_whole _) cc0_scoped3 cc0_scoped4 (firstChunk L)

/-- What the tile holds before trip `t`. -/
def Before (f₀ : S204800x128.Idx → Elt F .f32) (qt : PosShare TreeShare) (O : CellTallies nD τ sig (HIx 1)) (W : Waits sig (HIx 1)) (t : ℕ) : sProp 𝕄 :=
  iprop(Cur d L I q t ∗ FreeI d L I (slot (t + 1)) (qs q (slot (t + 1))) ∗ Prev d L T I t ∗ FreeO d L (slot t) ∗ (tLoc d ↦{qt} T)
    ∗ semVal (thr d L, SemLoc.dma gsem) 0 ∗ Done d L T I t ∗ Todo d L f₀ t ∗ Owing d L O W ∗ Transfers.MayWaits (thr d L) (default : HIx 1) O)

/-- The state after a trip, from its pieces. -/
theorem before_next (f₀ : S204800x128.Idx → Elt F .f32) (qt : PosShare TreeShare) (O : CellTallies nD τ sig (HIx 1)) (W : Waits sig (HIx 1)) (t : ℕ) :
    iprop(Cur d L I q (t + 1) ∗ FreeI d L I (slot t) (qs q (slot t)) ∗ OutO d L T I (slot t) (cn L t) ∗ FreeO d L (slot (t + 1)) ∗ (tLoc d ↦{qt} T)
      ∗ semVal (thr d L, SemLoc.dma gsem) 0 ∗ Done d L T I (t + 1) ∗ Todo d L f₀ (t + 1) ∗ Owing d L O W ∗ Transfers.MayWaits (thr d L) (default : HIx 1) O : sProp 𝕄)
      ⊢ Before d L T I q f₀ qt O W (t + 1) := by
  unfold Before Prev
  rw [slot_two, if_neg (Nat.succ_ne_zero t), Nat.add_sub_cancel]

/-- With the write-back of chunk `t - 1` done, one more chunk is done. -/
theorem done_next {t : ℕ} (h1 : 1 ≤ t) (h50 : t ≤ 50) :
    iprop(chunkPts d (cn L (t - 1)) (gathered T I) ∗ Done d L T I t : sProp 𝕄) ⊢ Done d L T I (t + 1) := by
  obtain ⟨s, rfl⟩ := Nat.exists_eq_add_of_le' h1
  have hs : s < 50 := by omega
  unfold Done
  rw [show s + 1 + 1 = s + 2 from rfl, done_insert hs, SparseCore.bigSep_insert' (done_notMem hs), Nat.add_sub_cancel, cn_eq L hs]

/-- Trip `t` carries the state before it to the state after it, and its words likewise. -/
theorem trip_wp (hI : ∀ j, (I j).toNat < 100000) (f₀ : S204800x128.Idx → Elt F .f32) (qt : PosShare TreeShare)
    (O : CellTallies nD τ sig (HIx 1)) (W : Waits sig (HIx 1)) (t : Trip) :
    (Before d L T I q f₀ qt O W t.val : sProp 𝕄)
      ⊢ wp frame (wpE (defs₀ (F := F)) 𝒱₀ (thr d L) none) Set.univ (tripBody d L t (carried t.val))
          (fun r => iprop(⌜r = carried (t.val + 1)⌝ ∗ Before d L T I q f₀ qt O W (t.val + 1))) := by
  have ht := trip_lt t
  have e : carried t.val = (wd (t.val + 1), wd t.val, wd t.val, wd (t.val - 1), wd t.val) := by
    unfold carried; rw [if_neg (by omega), show min (t.val + 1) 50 = t.val + 1 by omega]
  rw [e]
  unfold tripBody k0_t1_body
  conv_lhs => unfold Before
  iintro ⟨Hc, Hn, Hp, Hr, Ht, Hg, Hdone, Htodo, HO, #Hmw⟩
  rw [wp_bind]
  iapply (wp_wand _ _ _) $$ [Hn]
  · iapply (part1_wp d L I q t) $$ Hn
  iintro %r ⟨%hr, Hn⟩
  subst hr
  have q5 := cond5_true L t
  have ho13 : k0_off13 L (wd t.val) = ![128 * (cn L t.val).val, 0] := by rw [cn_eq L ht]; exact off13_eq L ⟨t.val, ht⟩
  have hw := tripWords_eq L t
  generalize hpw : part1Words L t = pw at hw ⊢
  obtain ⟨c3, c2, c1, v5, v64, v65, v66, v71, v76, v91, v96⟩ := pw
  dsimp only at hw ⊢
  rw [wp_bind]
  iapply (wp_wand _ _ _) $$ [Hc Hr Ht Hg HO]
  · iapply (part2_wp d L T I q hI qt O W t c3 c2 c1 v5 v64 v65 v66 v71 v76 v96)
    isplitl [Hc]; · iexact Hc
    isplitl [Hr]; · iexact Hr
    isplitl [Ht]; · iexact Ht
    isplitl [Hg]; · iexact Hg
    isplitl [HO]; · iexact HO
    iexact Hmw
  iintro %_ ⟨Hc, Hr, Ht, Hg, HO⟩
  ihave Htodo := (Entails.of_eq (show (Todo d L f₀ t.val : sProp 𝕄) = iprop(chunkPts d (cn L t.val) f₀ ∗ Todo d L f₀ (t.val + 1)) by
    unfold Todo; rw [todo_insert ht, SparseCore.bigSep_insert' (todo_notMem ht), cn_eq L ht])) $$ Htodo
  icases Htodo with ⟨Hch, Htodo⟩
  sl_exec
  iapply (step_put d L T I (slot t.val) (cn L t.val) f₀ ho13 (off12_eq t) (off14_eq t)) $$ [Hr Hch]
  · isplitl [Hr] <;> iassumption
  iintro Hr
  by_cases h0 : t.val = 0
  · have q7 := (cond7_iff L t).not.mpr (by omega)
    sl_exec
    sl_step
    isplitr; · ipureintro; exact hw
    iapply (before_next d L T I q f₀ qt O W t.val)
    isplitl [Hn]; · iexact Hn
    isplitl [Hc]; · iexact Hc
    isplitl [Hr]; · iexact Hr
    isplitl [Hp]; · iapply (Entails.of_eq (show (Prev d L T I t.val : sProp 𝕄) = FreeO d L (slot (t.val + 1)) by unfold Prev; rw [if_pos h0])) $$ Hp
    isplitl [Ht]; · iexact Ht
    isplitl [Hg]; · iexact Hg
    isplitl [Hdone]; · iapply (Entails.of_eq (show (Done d L T I t.val : sProp 𝕄) = Done d L T I (t.val + 1) by unfold Done; rw [h0, done_one])) $$ Hdone
    isplitl [Htodo]; · iexact Htodo
    isplitl [HO]; · iexact HO
    iexact Hmw
  · have q7 := (cond7_iff L t).mpr (by omega)
    sl_exec
    ihave Hp := (Entails.of_eq (show (Prev d L T I t.val : sProp 𝕄) = OutO d L T I (slot (t.val + 1)) (cn L (t.val - 1)) by unfold Prev; rw [if_neg h0])) $$ Hp
    iapply (step_written d L T I (slot (t.val + 1)) (cn L (t.val - 1)) O W ((off17_eq t).trans (by rw [slot_pred (by omega)]))) $$ [Hp HO]
    · isplitl [Hp]; · iexact Hp
      isplitl [HO]; · iexact HO
      iexact Hmw
    iintro ⟨Hp, Hch, HO⟩
    sl_exec
    sl_step
    isplitr; · ipureintro; exact hw
    iapply (before_next d L T I q f₀ qt O W t.val)
    isplitl [Hn]; · iexact Hn
    isplitl [Hc]; · iexact Hc
    isplitl [Hr]; · iexact Hr
    isplitl [Hp]; · iexact Hp
    isplitl [Ht]; · iexact Ht
    isplitl [Hg]; · iexact Hg
    isplitl [Hch Hdone]; · iapply (done_next d L T I (by omega) (by omega)); isplitl [Hch] <;> iassumption
    isplitl [Htodo]; · iexact Htodo
    isplitl [HO]; · iexact HO
    iexact Hmw

end Trip

end Cert.Proof.GatherK

end

end
-- ==== Proof.Tile.lean ====
/-
  The whole of a tile's task: the first fetch, the fifty trips, the last write-back awaited. From a share of the index
  array and of the table and its fifty chunks of the result, the tile leaves those chunks at the gathered rows.
-/
module

public import proofs.«01_k».proof.Proof.Trip

@[expose] public section

noncomputable section

namespace Cert.Proof.GatherK

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

section Tile

variable (d : Dev nD) (L : grid0.Coords)
variable (T : S100000x128.Idx → Elt F .f32) (I : S1x204800.Idx → Elt F .i32) (q : PosShare TreeShare)

/-! ## The scratch buffers as their two slots -/

/-- The index scratch is its two slots. -/
theorem ibuf_split (f : S2x1x128.Idx → Elt F .i32) :
    ((thr d L).loc cc0_scoped0 ↦{fullShare} f : sProp 𝕄) = iprop(islotPts d L 0 f ∗ islotPts d L 1 f) := by
  rw [show ((thr d L).loc cc0_scoped0 ↦{fullShare} f : sProp 𝕄) = (thr d L).loc cc0_scoped0 ↦[(Finset.univ : Finset (Fin 2)).biUnion islotSet]{fullShare} f by
      rw [islot_cover],
    pointsTo_biUnion Finset.univ _ islot_disjoint, bigSep_univ_two]

/-- The row scratch is its two slots. -/
theorem rbuf_split (f : S2x128x128.Idx → Elt F .f32) :
    ((thr d L).loc cc0_scoped2 ↦{fullShare} f : sProp 𝕄) = iprop(rslotPts d L 0 f ∗ rslotPts d L 1 f) := by
  rw [show ((thr d L).loc cc0_scoped2 ↦{fullShare} f : sProp 𝕄) = (thr d L).loc cc0_scoped2 ↦[(Finset.univ : Finset (Fin 2)).biUnion rslotSet]{fullShare} f by
      rw [rslot_cover],
    pointsTo_biUnion Finset.univ _ rslot_disjoint, bigSep_univ_two]

/-- The two slots of the index scratch, at whatever words, are it at some. -/
theorem ibuf_join : iprop((∃ f, islotPts d L 0 f) ∗ (∃ f, islotPts d L 1 f) : sProp 𝕄) ⊢ iprop(∃ f, (thr d L).loc cc0_scoped0 ↦{fullShare} f) := by
  iintro ⟨⟨%f, H0⟩, ⟨%g, H1⟩⟩
  ihave H := (pointsTo_biUnion_join (ℓ := (thr d L).loc cc0_scoped0) (q := fullShare) Finset.univ islotSet
    (fun b => if b = 0 then f else g) f islot_disjoint) $$ [H0 H1]
  · rw [bigSep_univ_two]
    isplitl [H0]; · iexact H0
    iexact H1
  icases H with ⟨%r, -, H⟩
  rw [islot_cover]
  iexists r; iexact H

/-- The two slots of the row scratch, at whatever rows, are it at some. -/
theorem rbuf_join : iprop((∃ f, rslotPts (F := F) d L 0 f) ∗ (∃ f, rslotPts (F := F) d L 1 f) : sProp 𝕄) ⊢ iprop(∃ f, (thr d L).loc cc0_scoped2 ↦{fullShare} f) := by
  iintro ⟨⟨%f, H0⟩, ⟨%g, H1⟩⟩
  ihave H := (pointsTo_biUnion_join (ℓ := (thr d L).loc cc0_scoped2) (q := fullShare) Finset.univ rslotSet
    (fun b => if b = 0 then f else g) f rslot_disjoint) $$ [H0 H1]
  · rw [bigSep_univ_two]
    isplitl [H0]; · iexact H0
    iexact H1
  icases H with ⟨%r, -, H⟩
  rw [rslot_cover]
  iexists r; iexact H

/-! ## The loop -/

theorem done_zero : doneSet 0 = ∅ := by
  ext n; simp [doneSet]
theorem todo_zero : todoSet 0 = Finset.univ := by
  ext n; simp [todoSet]
theorem todo_fifty : todoSet 50 = ∅ := by
  ext n; simp only [todoSet, Finset.mem_filter, Finset.mem_univ, true_and, Finset.notMem_empty, iff_false]; omega
theorem done_all : doneSet 51 = Finset.univ := by
  ext n; simp only [doneSet, Finset.mem_filter, Finset.mem_univ, true_and, iff_true]; omega

variable [FloatOps F]

/-- The loop's invariant: before trip `n` the words are those of trip `n`, and the tile holds what it holds then. -/
def LoopInv (f₀ : S204800x128.Idx → Elt F .f32) (qt : PosShare TreeShare) (O : CellTallies nD τ sig (HIx 1)) (W : Waits sig (HIx 1))
    (n : ℕ) (acc : BitVec 32 × BitVec 32 × BitVec 32 × BitVec 32 × BitVec 32) : sProp 𝕄 :=
  iprop(⌜acc = carried n⌝ ∗ Before d L T I q f₀ qt O W n)

theorem loop_step (hI : ∀ j, (I j).toNat < 100000) (f₀ : S204800x128.Idx → Elt F .f32) (qt : PosShare TreeShare)
    (O : CellTallies nD τ sig (HIx 1)) (W : Waits sig (HIx 1)) (t : Trip) (acc : BitVec 32 × BitVec 32 × BitVec 32 × BitVec 32 × BitVec 32) :
    (LoopInv d L T I q f₀ qt O W t.val acc : sProp 𝕄)
      ⊢ wp frame (wpE (defs₀ (F := F)) 𝒱₀ (thr d L) none) Set.univ (tripBody d L t acc) (LoopInv d L T I q f₀ qt O W (t.val + 1)) := by
  unfold LoopInv
  iintro ⟨%h, H⟩
  subst h
  iapply (trip_wp d L T I q hI f₀ qt O W t) $$ H

/-- The loop and the checks after it: from the state before the first trip to the state after the last. -/
theorem part4_wp (hI : ∀ j, (I j).toNat < 100000) (f₀ : S204800x128.Idx → Elt F .f32) (qt : PosShare TreeShare)
    (O : CellTallies nD τ sig (HIx 1)) (W : Waits sig (HIx 1)) :
    (Before d L T I q f₀ qt O W 0 : sProp 𝕄)
      ⊢ wp frame (wpE (defs₀ (F := F)) 𝒱₀ (thr d L) none) Set.univ
          (k0_part4 L tabV (Memref.isWhole_whole _) idxV (Memref.isWhole_whole _) outV (Memref.isWhole_whole _) ibufV (Memref.isWhole_whole _)
            cc0_scoped1 rbufV (Memref.isWhole_whole _) cc0_scoped3 cc0_scoped4 (firstChunk L))
          (fun r => iprop(⌜r = ⟨wd 49, wd 0, chk5_true L, chk4_true⟩⌝ ∗ Before d L T I q f₀ qt O W 50)) := by
  rw [k0_part4_eq_skeleton]
  unfold k0_part4_skel
  have c4 := chk4_true
  have c5 := chk5_true L
  have hinit : ((Scalar.addi 0#32 1#32, 0#32, 0#32, 0#32, 0#32) : BitVec 32 × BitVec 32 × BitVec 32 × BitVec 32 × BitVec 32) = carried 0 := by decide
  iintro H
  dsimp only
  rw [hinit]
  iapply (Scf.wp_for_bind frame (wpE (defs₀ (F := F)) 𝒱₀ (thr d L) none) Set.univ k0_t1_loop.lb k0_t1_loop.ub k0_t1_loop.st k0_t1_ok (carried 0) (tripBody d L)
    (LoopInv d L T I q f₀ qt O W) (loop_step d L T I q hI f₀ qt O W)) $$ [H]
  · unfold LoopInv
    isplitr; · ipureintro; rfl
    iexact H
  iintro %acc H
  unfold LoopInv
  icases H with ⟨%h, H⟩
  subst h
  have h50 : Scf.trips k0_t1_loop.lb k0_t1_loop.ub k0_t1_loop.st = 50 := trips_eq
  rw [h50]
  have hl : carried 50 = (wd 50, wd 50, wd 50, wd 49, wd 0) := by decide
  rw [hl]
  sl_exec
  sl_step
  isplitr; · ipureintro; rfl
  iexact H

/-- The first fetch is issued. -/
theorem part3_wp :
    (FreeI d L I (slot 0) (qs q (slot 0)) : sProp 𝕄)
      ⊢ wp frame (wpE (defs₀ (F := F)) 𝒱₀ (thr d L) none) Set.univ
          (k0_part3 L tabV (Memref.isWhole_whole _) idxV (Memref.isWhole_whole _) outV (Memref.isWhole_whole _) ibufV (Memref.isWhole_whole _)
            cc0_scoped1 rbufV (Memref.isWhole_whole _) cc0_scoped3 cc0_scoped4)
          (fun r => iprop(⌜r = firstChunk L⌝ ∗ Cur d L I q 0)) := by
  rw [k0_part3_eq_skeleton]
  unfold k0_part3_skel Cur
  rw [if_neg (by decide)]
  iintro H
  sl_exec
  iapply (step_fetch d L I (slot 0) (cn L 0) (qs q (slot 0)) (off2_eq L) k0_off1_eq k0_off3_eq) $$ H
  iintro H
  sl_exec
  sl_step
  isplitr; · ipureintro; rfl
  iexact H

/-- What the tile holds besides the chunks at its start and at its end: both slots of each scratch, the semaphores, its shares. -/
def Idle (qt : PosShare TreeShare) : sProp 𝕄 :=
  iprop(FreeI d L I 0 q.left ∗ FreeI d L I 1 q.right ∗ FreeO d L 0 ∗ FreeO d L 1 ∗ (tLoc d ↦{qt} T) ∗ semVal (thr d L, SemLoc.dma gsem) 0)

/-- The tile's fifty chunks at the contents `f`. -/
def Chunks (f : S204800x128.Idx → Elt F .f32) : sProp 𝕄 := bigSep Finset.univ fun n : Fin 50 => chunkPts (F := F) d (chunkNo L n) f

/-- The tile's task between its slots: its chunks go from `f₀` to the gathered rows. -/
theorem task_wp (hI : ∀ j, (I j).toNat < 100000) (f₀ : S204800x128.Idx → Elt F .f32) (qt : PosShare TreeShare)
    (O : CellTallies nD τ sig (HIx 1)) (W : Waits sig (HIx 1)) :
    iprop(Idle d L T I q qt ∗ Chunks d L f₀ ∗ Owing d L O W ∗ Transfers.MayWaits (thr d L) (default : HIx 1) O : sProp 𝕄)
      ⊢ wp frame (wpE (defs₀ (F := F)) 𝒱₀ (thr d L) none) Set.univ
          (cc0_gather_kernel L tabV (Memref.isWhole_whole _) idxV (Memref.isWhole_whole _) outV (Memref.isWhole_whole _) ibufV (Memref.isWhole_whole _)
            cc0_scoped1 rbufV (Memref.isWhole_whole _) cc0_scoped3 cc0_scoped4)
          (fun _ => iprop(Idle d L T I q qt ∗ Chunks d L (gathered T I) ∗ Owing d L O W)) := by
  rw [cc0_gather_kernel_eq_skeleton]
  unfold cc0_gather_kernel_skel
  conv_lhs => unfold Idle
  iintro ⟨⟨Hi0, Hi1, Hr0, Hr1, Ht, Hg⟩, Hch, HO, #Hmw⟩
  rw [wp_bind]
  iapply (wp_wand _ _ _) $$ [Hi0]
  · ihave Hi0 := (Entails.of_eq (show (FreeI d L I 0 q.left : sProp 𝕄) = FreeI d L I (slot 0) (qs q (slot 0)) from rfl)) $$ Hi0
    iapply (part3_wp d L I q) $$ Hi0
  iintro %r ⟨%hr, Hc⟩
  subst hr
  rw [wp_bind]
  iapply (wp_wand _ _ _) $$ [Hc Hi1 Hr0 Hr1 Ht Hg Hch HO]
  · iapply (part4_wp d L T I q hI f₀ qt O W)
    unfold Before
    isplitl [Hc]; · iexact Hc
    isplitl [Hi1]; · iexact Hi1
    isplitl [Hr1]; · iapply (Entails.of_eq (show (FreeO d L 1 : sProp 𝕄) = Prev d L T I 0 by unfold Prev; rw [if_pos rfl]; rfl)) $$ Hr1
    isplitl [Hr0]; · iexact Hr0
    isplitl [Ht]; · iexact Ht
    isplitl [Hg]; · iexact Hg
    isplitr; · iapply (Entails.of_eq (show (iprop(emp) : sProp 𝕄) = Done d L T I 0 by unfold Done; rw [done_zero, bigSep_empty]; rfl)); iempintro
    isplitl [Hch]; · iapply (Entails.of_eq (show (Chunks d L f₀ : sProp 𝕄) = Todo d L f₀ 0 by unfold Todo Chunks; rw [todo_zero])) $$ Hch
    isplitl [HO]; · iexact HO
    iexact Hmw
  iintro %r ⟨%hr, H⟩
  subst hr
  conv_lhs => unfold Before
  icases H with ⟨Hc, Hi1, Hp, Hr0, Ht, Hg, Hdone, -, HO, -⟩
  ihave Hp := (Entails.of_eq (show (Prev d L T I 50 : sProp 𝕄) = OutO d L T I (slot 51) (cn L 49) by unfold Prev; rw [if_neg (by decide)])) $$ Hp
  ihave Hc := (Entails.of_eq (show (Cur d L I q 50 : sProp 𝕄) = FreeI d L I 0 q.left by unfold Cur; rw [if_pos rfl]; rfl)) $$ Hc
  dsimp only
  iapply (step_written d L T I (slot 51) (cn L 49) O W off20_eq) $$ [Hp HO]
  · isplitl [Hp]; · iexact Hp
    isplitl [HO]; · iexact HO
    iexact Hmw
  iintro ⟨Hp, Hch, HO⟩
  dsimp only [Prog.bind]
  sl_step
  unfold Idle
  isplitr [Hdone Hch HO]
  · isplitl [Hc]; · iexact Hc
    isplitl [Hi1]; · iexact Hi1
    isplitl [Hr0]; · iexact Hr0
    isplitl [Hp]; · iexact Hp
    isplitl [Ht] <;> iassumption
  isplitl [Hdone Hch]
  · iapply (Entails.of_eq (show (Done d L T I 51 : sProp 𝕄) = Chunks d L (gathered T I) by unfold Done Chunks; rw [done_all]))
    iapply (done_next d L T I (t := 50) (by decide) (by decide))
    isplitl [Hch] <;> iassumption
  iexact HO

end Tile

end Cert.Proof.GatherK

end

end
-- ==== Proof.Launch.lean ====
/-
  The launch of the gather: what each SparseCore and each of its tiles receives and hands back, the obligation of a
  tile's task, and the split of a SparseCore's operands into its tiles'.
-/
module

public import proofs.«01_k».proof.Proof.Tile
public import Idealize.ShloMosaic.Lib.SparseCore.Quiescent

@[expose] public section

noncomputable section

namespace Cert.Proof.GatherK

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

theorem nCore_zero : (K (F := F)).nCore 0 = 2 := rfl
theorem nSub_zero : (K (F := F)).nSub 0 = 16 := rfl

/-- The body table the launch extends. -/
abbrev D [FloatOps F] : Defs nD τ sig (Elt F) (ΛP (F := F)) := Pipeline.defs pcfgs defs₀

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The coordinates of tile `s` of SparseCore `c`. -/
def at2 (c : Fin 2) (s : Fin 16) : grid0.Coords := fun | 0 => c | 1 => s | ⟨_ + 2, h⟩ => absurd h (Nat.not_lt.2 (Nat.le_add_left _ _))

/-- The tile's number out of 32. -/
def tileNo (c : Fin 2) (s : Fin 16) : Fin 32 := finProdFinEquiv (c, s)

/-- The share of an array that every tile reads. -/
abbrev part (w : Fin 32) : PosShare TreeShare := Idealize.ShloMosaic.pieceOf fullShare 32 (by decide) w

section Pays

variable (T : Dev nD → S100000x128.Idx → Elt F .f32) (I : Dev nD → S1x204800.Idx → Elt F .i32) (f₀ : Dev nD → S204800x128.Idx → Elt F .f32)

/-- What a tile holds outside its own memory: its shares of the index array and of the table, its chunks at `f`. -/
def Deal (d : Dev nD) (c : Fin 2) (s : Fin 16) (f : S204800x128.Idx → Elt F .f32) : sProp 𝕄 :=
  iprop(idxPts d (I d) (part (tileNo c s)) ∗ (tLoc d ↦{part (tileNo c s)} T d) ∗ Chunks d (at2 c s) f)

/-- What a SparseCore holds for its tiles. -/
def Deals (d : Dev nD) (c : Fin 2) (f : S204800x128.Idx → Elt F .f32) : sProp 𝕄 := bigSep Finset.univ fun s : Fin 16 => Deal T I d c s f

instance (d : Dev nD) (c : Fin 2) (s : Fin 16) (f : S204800x128.Idx → Elt F .f32) : BI.Storable (upEmb : UEmb _ 𝕄) (Deal T I d c s f) := by
  unfold Deal Chunks; infer_instance
instance (d : Dev nD) (c : Fin 2) (f : S204800x128.Idx → Elt F .f32) : BI.Storable (upEmb : UEmb _ 𝕄) (Deals T I d c f) := by
  unfold Deals; infer_instance

/-- What passes between the threads of the call. -/
def P : (K (F := F)).Pay (nD := nD) (Val := Elt F) (Name := ℕ) (U := UU) where
  st := fun q d c => match q with | 0 => Deals T I d (Fin.cast nCore_zero c) (f₀ d)
  dn := fun q d c => match q with | 0 => Deals T I d (Fin.cast nCore_zero c) (gathered (T d) (I d))
  go := fun q d c i => match q with | 0 => Deal T I d (Fin.cast nCore_zero c) (Fin.cast nSub_zero i) (f₀ d)
  td := fun q d c i => match q with | 0 => Deal T I d (Fin.cast nCore_zero c) (Fin.cast nSub_zero i) (gathered (T d) (I d))
  x := fun _ _ => iprop(emp)

instance P_storable : (P (F := F) T I f₀).IsStorable where
  st := fun q d c => match q with | 0 => (inferInstance : BI.Storable (upEmb : UEmb _ 𝕄) (Deals T I d (Fin.cast nCore_zero c) (f₀ d)))
  dn := fun q d c => match q with | 0 => (inferInstance : BI.Storable (upEmb : UEmb _ 𝕄) (Deals T I d (Fin.cast nCore_zero c) (gathered (T d) (I d))))
  go := fun q d c i => match q with | 0 => (inferInstance : BI.Storable (upEmb : UEmb _ 𝕄) (Deal T I d (Fin.cast nCore_zero c) (Fin.cast nSub_zero i) (f₀ d)))
  td := fun q d c i => match q with | 0 => (inferInstance : BI.Storable (upEmb : UEmb _ 𝕄) (Deal T I d (Fin.cast nCore_zero c) (Fin.cast nSub_zero i) (gathered (T d) (I d))))

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_eq (d : Dev nD) (c : Fin ((K (F := F)).nCore 0)) : (P T I f₀).st 0 d c = Deals T I d (Fin.cast nCore_zero c) (f₀ d) := rfl
theorem dn_eq (d : Dev nD) (c : Fin ((K (F := F)).nCore 0)) : (P T I f₀).dn 0 d c = Deals T I d (Fin.cast nCore_zero c) (gathered (T d) (I d)) := rfl
theorem go_eq (d : Dev nD) (c : Fin ((K (F := F)).nCore 0)) :
    (bigSep Finset.univ fun i : Fin ((K (F := F)).nSub 0) => (P T I f₀).go 0 d c i) = Deals T I d (Fin.cast nCore_zero c) (f₀ d) :=
  bigSep_tiles fun i => Deal T I d (Fin.cast nCore_zero c) i (f₀ d)
theorem td_eq (d : Dev nD) (c : Fin ((K (F := F)).nCore 0)) :
    (bigSep Finset.univ fun i : Fin ((K (F := F)).nSub 0) => (P T I f₀).td 0 d c i) = Deals T I d (Fin.cast nCore_zero c) (gathered (T d) (I d)) :=
  bigSep_tiles fun i => Deal T I d (Fin.cast nCore_zero c) i (gathered (T d) (I d))

/-- A SparseCore's operands are its tiles', and its tiles' results are its own. -/
theorem vecSplit : (K (F := F)).VecSplit' (P T I f₀) 0 := by
  intro d c
  rw [go_eq, td_eq, st_eq, dn_eq]
  iintro H; imodintro
  isplitl [H]; · iexact H
  iintro H
  iexact H

end Pays

/-! ## A tile's own memory -/

section Own

variable (d : Dev nD) (L : grid0.Coords)

/-- The tile's DMA semaphore number `k`. -/
abbrev cell (k : Fin 5) : GSem nD τ sig := (thr d L, SemLoc.dma k)

theorem cell_scoped : ∀ k : Fin 5, (SemLoc.dma k : SemLoc sig).isScoped .scVector = true := by decide
theorem cell_mem (k : Fin 5) : cell d L k ∈ ownCells (thr d L) := mem_ownCells.mpr ⟨rfl, cell_scoped k⟩
theorem cell_ne {j k : Fin 5} (h : j ≠ k) : cell d L j ≠ cell d L k := fun e => h (SemLoc.dma.inj (Prod.mk.inj e).2)

/-- The five DMA semaphores are among the tile's own semaphores: they are them and the rest, all at zero. -/
theorem ownSems0_V :
    (ownSems0 (thr d L) : sProp 𝕄)
      = iprop(semVal (cell d L 0) 0 ∗ semVal (cell d L 1) 0 ∗ semVal (cell d L 2) 0 ∗ semVal (cell d L 3) 0 ∗ semVal (cell d L 4) 0
          ∗ bigSep ((((((ownCells (thr d L)).erase (cell d L 0)).erase (cell d L 1)).erase (cell d L 2)).erase (cell d L 3)).erase (cell d L 4)) fun g => semVal g 0) := by
  unfold SparseCore.Cfg.ownSems0
  rw [SparseCore.bigSep_erase' (cell_mem d L 0),
    SparseCore.bigSep_erase' (Finset.mem_erase.mpr ⟨cell_ne d L (show (1 : Fin 5) ≠ 0 by decide), cell_mem d L 1⟩),
    SparseCore.bigSep_erase' (Finset.mem_erase.mpr ⟨cell_ne d L (show (2 : Fin 5) ≠ 1 by decide),
      Finset.mem_erase.mpr ⟨cell_ne d L (show (2 : Fin 5) ≠ 0 by decide), cell_mem d L 2⟩⟩),
    SparseCore.bigSep_erase' (Finset.mem_erase.mpr ⟨cell_ne d L (show (3 : Fin 5) ≠ 2 by decide),
      Finset.mem_erase.mpr ⟨cell_ne d L (show (3 : Fin 5) ≠ 1 by decide),
        Finset.mem_erase.mpr ⟨cell_ne d L (show (3 : Fin 5) ≠ 0 by decide), cell_mem d L 3⟩⟩⟩),
    SparseCore.bigSep_erase' (Finset.mem_erase.mpr ⟨cell_ne d L (show (4 : Fin 5) ≠ 3 by decide),
      Finset.mem_erase.mpr ⟨cell_ne d L (show (4 : Fin 5) ≠ 2 by decide),
        Finset.mem_erase.mpr ⟨cell_ne d L (show (4 : Fin 5) ≠ 1 by decide),
          Finset.mem_erase.mpr ⟨cell_ne d L (show (4 : Fin 5) ≠ 0 by decide), cell_mem d L 4⟩⟩⟩⟩)]

/-- The two scratch buffers are among the tile's own buffers: they are them, at some contents, and the rest. -/
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Own

/-! ## The task -/

section Task

variable [FloatOps F]
variable (T : Dev nD → S100000x128.Idx → Elt F .f32) (I : Dev nD → S1x204800.Idx → Elt F .i32) (f₀ : Dev nD → S204800x128.Idx → Elt F .f32)

/-- The tile's task from what it is dealt and its own memory: its chunks are left at the gathered rows, its memory returned. -/
theorem tile_body (hI : ∀ d j, (I d j).toNat < 100000) (d : Dev nD) (c : Fin 2) (s : Fin 16) (O : CellTallies nD τ sig (HIx 1)) (W : Waits sig (HIx 1))
    (hO : ∀ g, O g none = 0) :
    iprop(levAts (K (F := F)).L (K (F := F)).lev ∗ emp ∗ Deal T I d c s (f₀ d)
        ∗ scopedBufs (thr d (at2 c s)) ∗ scopedSems0 (thr d (at2 c s)) ∗ owes (thr d (at2 c s)) O W : sProp 𝕄)
      ⊢ wp frame (wpE (defs₀ (F := F)) 𝒱₀ (thr d (at2 c s)) none) Set.univ
          (cc0_gather_kernel (at2 c s) tabV (Memref.isWhole_whole _) idxV (Memref.isWhole_whole _) outV (Memref.isWhole_whole _) ibufV (Memref.isWhole_whole _)
            cc0_scoped1 rbufV (Memref.isWhole_whole _) cc0_scoped3 cc0_scoped4)
          (fun _ => iprop(Deal T I d c s (gathered (T d) (I d)) ∗ scopedBufs (thr d (at2 c s)) ∗ scopedSems0 (thr d (at2 c s))
            ∗ ∃ W', ⌜∀ p ∈ W', p ∈ W ∨ p.2 = none⌝ ∗ owes (thr d (at2 c s)) O W')) := by
  generalize hL : at2 c s = L
  rw [(K (F := F)).scopedBufs_V facts d (cV L) (jV L), SparseCore.Cfg.scopedSems0_V (Val := Elt F) d (cV L) (jV L), ownSems0_V, ownBufs_V]
  unfold Deal
  rw [hL]
  iintro ⟨#Hlv, -, ⟨Hi, Ht, Hch⟩, ⟨⟨%fi, Hib⟩, ⟨%fr, Hrb⟩, Hbufs⟩, ⟨H0, H1, H2, H3, H4, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (pointsTo_share (PosShare.mem_left_op_right (part (tileNo c s)))).1 $$ Hi
  icases Hi with ⟨Hil, Hir⟩
  ihave Hib := (Entails.of_eq (ibuf_split d L fi)) $$ Hib
  icases Hib with ⟨Hib0, Hib1⟩
  ihave Hrb := (Entails.of_eq (rbuf_split d L fr)) $$ Hrb
  icases Hrb with ⟨Hrb0, Hrb1⟩
  iapply (wp_wand _ _ _) $$ [Hil Hir Ht Hch Hib0 Hib1 Hrb0 Hrb1 H0 H1 H2 H3 H4 HO Hmw]
  · iapply (task_wp d L (T d) (I d) (part (tileNo c s)) (hI d) (f₀ d) (part (tileNo c s)) O W)
    isplitr [Hch HO Hmw]
    · unfold Idle FreeI FreeO
      rw [isem_0, isem_1, osem_0, osem_1, gsem_eq]
      isplitl [Hib0 H0 Hil]
      · isplitl [Hib0]; · iexists fi; iexact Hib0
        isplitl [H0] <;> iassumption
      isplitl [Hib1 H1 Hir]
      · isplitl [Hib1]; · iexists fi; iexact Hib1
        isplitl [H1] <;> iassumption
      isplitl [Hrb0 H2]
      · isplitl [Hrb0]; · iexists fr; iexact Hrb0
        iexact H2
      isplitl [Hrb1 H3]
      · isplitl [Hrb1]; · iexists fr; iexact Hrb1
        iexact H3
      isplitl [Ht] <;> iassumption
    isplitl [Hch]; · iexact Hch
    isplitl [HO]
    · unfold Owing
      iexists W
      isplitr; · ipureintro; exact fun p hp => Or.inl hp
      iexact HO
    iexact Hmw
  iintro %r H
  unfold Idle FreeI FreeO Owing
  rw [isem_0, isem_1, osem_0, osem_1, gsem_eq]
  icases H with ⟨⟨⟨Hib0, H0, Hil⟩, ⟨Hib1, H1, Hir⟩, ⟨Hrb0, H2⟩, ⟨Hrb1, H3⟩, Ht, H4⟩, Hch, HO⟩
  isplitl [Hil Hir Ht Hch]
  · isplitl [Hil Hir]
    · iapply (pointsTo_share (PosShare.mem_left_op_right (part (tileNo c s)))).2
      isplitl [Hil] <;> iassumption
    isplitl [Ht] <;> iassumption
  isplitl [Hib0 Hib1 Hrb0 Hrb1 Hbufs]
  · isplitl [Hib0 Hib1]
    · iapply (ibuf_join d L)
      isplitl [Hib0] <;> iassumption
    isplitl [Hrb0 Hrb1]
    · iapply (rbuf_join d L)
      isplitl [Hrb0] <;> iassumption
    iexact Hbufs
  isplitl [H0 H1 H2 H3 H4 Hsems]
  · isplitl [H0]; · iexact H0
    isplitl [H1]; · iexact H1
    isplitl [H2]; · iexact H2
    isplitl [H3]; · iexact H3
    isplitl [H4] <;> iassumption
  iexact HO

theorem defs₀_vector (c : Fin τ.nSC) (s : Fin τ.nSub) :
    defs₀ (F := F) (.scVector c s) 0 ()
      = SparseCore.onTile hcore0 hsub0 (fun c s => cc0_gather_kernel (at2 c s) tabV (Memref.isWhole_whole _) idxV (Memref.isWhole_whole _)
          outV (Memref.isWhole_whole _) ibufV (Memref.isWhole_whole _) cc0_scoped1 rbufV (Memref.isWhole_whole _) cc0_scoped3 cc0_scoped4) ⟨⟩ c s := rfl

omit [FloatOps F] in
/-- The waits a task leaves, stated as the launch asks. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

set_option maxRecDepth 16384 in
/-- Each tile's task meets the launch's obligation. -/
theorem tileObl (hI : ∀ d j, (I d j).toNat < 100000) : (K (F := F)).TileObl (D (F := F)) 𝒱 (P T I f₀) v₀ 0 := by
  intro d c i O W hO _ _
  simp only [show (P T I f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body T I f₀ hI d ⟨_, hci.1⟩ ⟨_, hci.2⟩ O W hO).trans (wp_mono frame _ _ fun _ => waits_weaken)

end Task

end Cert.Proof.GatherK

end
-- ==== Proof.Host.lean ====
/-
  The host operations around the launch: the line before it, which sorts the lengths and lays out the token indices, the
  line after it, and what each of the arrays the certificate reads holds after them.
-/
module

public import proofs.«01_k».proof.Proof.Launch
public import Idealize.ShloMosaic.Lib.StableHlo.Run
public import Idealize.ShloMosaic.Lib.Pipeline.Frame

@[expose] public section

noncomputable section

namespace Cert.Proof.GatherK

open Cert.KernelIdeal Cert.KernelIdeal.Gen
open Idealize.ShloMosaic Idealize.ShloMosaic.StableHlo
open Idealize.SL.Sem

variable {F : FTy → Type} [FloatOps F]

/-- The host operations before the launch, in order. -/
abbrev opsA : List (HloOp τ sig (Elt F)) :=
  [ nullary main_c (constantI S_ 32 1#32),
    unary main_c main_v0 (broadcastInDim S1024 ![] bcast_S_S1024 : (⟨S_, .i32⟩ : BufTy).Contents (Elt F) → (⟨S1024, .i32⟩ : BufTy).Contents (Elt F)),
    binary main_arg1 main_v0 main_v1 (maxsi : (⟨S1024, .i32⟩ : BufTy).Contents (Elt F) → (⟨S1024, .i32⟩ : BufTy).Contents (Elt F) → (⟨S1024, .i32⟩ : BufTy).Contents (Elt F)),
    unary main_v1 main_v2 (negi : (⟨S1024, .i32⟩ : BufTy).Contents (Elt F) → (⟨S1024, .i32⟩ : BufTy).Contents (Elt F)),
    TRef.nullary main_call0.v0 (iotaInDim S1024 32 0),
    TRef.binary (.of main_v2) main_call0.v0 main_call0.v1_0 (fun x y => (Host.sort2 S1024 0 comparator_i32_i32_d0 x y).1),
    TRef.binary (.of main_v2) main_call0.v0 main_call0.v1_1 (fun x y => (Host.sort2 S1024 0 comparator_i32_i32_d0 x y).2),
    nullary main_c_0 (constantI S_ 32 0#32),
    unary main_c_0 main_v4 (broadcastInDim S1024 ![] bcast_S_S1024 : (⟨S_, .i32⟩ : BufTy).Contents (Elt F) → (⟨S1024, .i32⟩ : BufTy).Contents (Elt F)),
    binary main_v3 main_v4 main_v5 (cmpi .slt : (⟨S1024, .i32⟩ : BufTy).Contents (Elt F) → (⟨S1024, .i32⟩ : BufTy).Contents (Elt F) → (⟨S1024, .i1⟩ : BufTy).Contents (Elt F)),
    nullary main_c_1 (constantI S_ 32 1024#32),
    unary main_c_1 main_v6 (broadcastInDim S1024 ![] bcast_S_S1024 : (⟨S_, .i32⟩ : BufTy).Contents (Elt F) → (⟨S1024, .i32⟩ : BufTy).Contents (Elt F)),
    binary main_v3 main_v6 main_v7 (addi : (⟨S1024, .i32⟩ : BufTy).Contents (Elt F) → (⟨S1024, .i32⟩ : BufTy).Contents (Elt F) → (⟨S1024, .i32⟩ : BufTy).Contents (Elt F)),
    ternary main_v5 main_v7 main_v3 main_v8 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v8 main_v9 (broadcastInDim S1024x1 ![0] bcast_S1024_S1024x1_0 : (⟨S1024, .i32⟩ : BufTy).Contents (Elt F) → (⟨S1024x1, .i32⟩ : BufTy).Contents (Elt F)),
    binary main_v1 main_v9 main_v10 ((fun x i => Host.gather gather_S1024_S1024x1_S1024_n_0_n_n_0_1_1 x i) : (⟨S1024, .i32⟩ : BufTy).Contents (Elt F) → (⟨S1024x1, .i32⟩ : BufTy).Contents (Elt F) → (⟨S1024, .i32⟩ : BufTy).Contents (Elt F)),
    nullary main_v11 (iotaInDim S200 32 0),
    unary main_v11 main_v12 (broadcastInDim S1x200 ![1] bcast_S200_S1x200_1 : (⟨S200, .i32⟩ : BufTy).Contents (Elt F) → (⟨S1x200, .i32⟩ : BufTy).Contents (Elt F)),
    unary main_v10 main_v13 (broadcastInDim S1024x1 ![0] bcast_S1024_S1024x1_0 : (⟨S1024, .i32⟩ : BufTy).Contents (Elt F) → (⟨S1024x1, .i32⟩ : BufTy).Contents (Elt F)),
    unary main_v12 main_v14 (broadcastInDim S1024x200 ![0, 1] bcast_S1x200_S1024x200_0_1 : (⟨S1x200, .i32⟩ : BufTy).Contents (Elt F) → (⟨S1024x200, .i32⟩ : BufTy).Contents (Elt F)),
    unary main_v13 main_v15 (broadcastInDim S1024x200 ![0, 1] bcast_S1024x1_S1024x200_0_1 : (⟨S1024x1, .i32⟩ : BufTy).Contents (Elt F) → (⟨S1024x200, .i32⟩ : BufTy).Contents (Elt F)),
    binary main_v14 main_v15 main_v16 (cmpi .slt : (⟨S1024x200, .i32⟩ : BufTy).Contents (Elt F) → (⟨S1024x200, .i32⟩ : BufTy).Contents (Elt F) → (⟨S1024x200, .i1⟩ : BufTy).Contents (Elt F)),
    nullary main_c_2 (constantI S_ 32 0#32),
    unary main_c_2 main_v17 (broadcastInDim S1024 ![] bcast_S_S1024 : (⟨S_, .i32⟩ : BufTy).Contents (Elt F) → (⟨S1024, .i32⟩ : BufTy).Contents (Elt F)),
    binary main_v3 main_v17 main_v18 (cmpi .slt : (⟨S1024, .i32⟩ : BufTy).Contents (Elt F) → (⟨S1024, .i32⟩ : BufTy).Contents (Elt F) → (⟨S1024, .i1⟩ : BufTy).Contents (Elt F)),
    nullary main_c_3 (constantI S_ 32 1024#32),
    unary main_c_3 main_v19 (broadcastInDim S1024 ![] bcast_S_S1024 : (⟨S_, .i32⟩ : BufTy).Contents (Elt F) → (⟨S1024, .i32⟩ : BufTy).Contents (Elt F)),
    binary main_v3 main_v19 main_v20 (addi : (⟨S1024, .i32⟩ : BufTy).Contents (Elt F) → (⟨S1024, .i32⟩ : BufTy).Contents (Elt F) → (⟨S1024, .i32⟩ : BufTy).Contents (Elt F)),
    ternary main_v18 main_v20 main_v3 main_v21 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v21 main_v22 (broadcastInDim S1024x1 ![0] bcast_S1024_S1024x1_0 : (⟨S1024, .i32⟩ : BufTy).Contents (Elt F) → (⟨S1024x1, .i32⟩ : BufTy).Contents (Elt F)),
    binary main_arg0 main_v22 main_v23 ((fun x i => Host.gather gather_S1024x200_S1024x1_S1024x200_1_0_n_n_0_1_1200 x i) : (⟨S1024x200, .i32⟩ : BufTy).Contents (Elt F) → (⟨S1024x1, .i32⟩ : BufTy).Contents (Elt F) → (⟨S1024x200, .i32⟩ : BufTy).Contents (Elt F)),
    nullary main_c_4 (constantI S_ 32 0#32),
    TRef.unary (.of main_c_4) main_call1.v0 id,
    TRef.unary main_call1.v0 main_call1.v1 (broadcastInDim S1024x200 ![] bcast_S_S1024x200),
    TRef.ternary (.of main_v16) (.of main_v23) main_call1.v1 main_call1.v2 select,
    reshape main_v24 main_v25 (rfl : (.i32 : EltTy) = .i32) shapeCasts_S1024x200_S1x204800 ]

/-- The host operations after the launch, in order. -/
abbrev opsB : List (HloOp τ sig (Elt F)) :=
  [ reshape main_v26 main_v27 (rfl : (.f32 : EltTy) = .f32) shapeCasts_S204800x128_S1024x200x128,
    unary main_v10 main_v28 (sitofp .f32 : (⟨S1024, .i32⟩ : BufTy).Contents (Elt F) → (⟨S1024, .f32⟩ : BufTy).Contents (Elt F)),
    nullary main_c_5 (constantI S_ 32 0#32),
    unary main_c_5 main_v29 (broadcastInDim S1024 ![] bcast_S_S1024 : (⟨S_, .i32⟩ : BufTy).Contents (Elt F) → (⟨S1024, .i32⟩ : BufTy).Contents (Elt F)),
    binary main_v3 main_v29 main_v30 (cmpi .slt : (⟨S1024, .i32⟩ : BufTy).Contents (Elt F) → (⟨S1024, .i32⟩ : BufTy).Contents (Elt F) → (⟨S1024, .i1⟩ : BufTy).Contents (Elt F)),
    nullary main_c_6 (constantI S_ 32 1024#32),
    unary main_c_6 main_v31 (broadcastInDim S1024 ![] bcast_S_S1024 : (⟨S_, .i32⟩ : BufTy).Contents (Elt F) → (⟨S1024, .i32⟩ : BufTy).Contents (Elt F)),
    binary main_v3 main_v31 main_v32 (addi : (⟨S1024, .i32⟩ : BufTy).Contents (Elt F) → (⟨S1024, .i32⟩ : BufTy).Contents (Elt F) → (⟨S1024, .i32⟩ : BufTy).Contents (Elt F)),
    ternary main_v30 main_v32 main_v3 main_v33 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v33 main_v34 (broadcastInDim S1024x1 ![0] bcast_S1024_S1024x1_0 : (⟨S1024, .i32⟩ : BufTy).Contents (Elt F) → (⟨S1024x1, .i32⟩ : BufTy).Contents (Elt F)),
    binary main_arg2 main_v34 main_v35 ((fun x i => Host.gather gather_S1024_S1024x1_S1024_n_0_n_n_0_1_1 x i) : (⟨S1024, .f32⟩ : BufTy).Contents (Elt F) → (⟨S1024x1, .i32⟩ : BufTy).Contents (Elt F) → (⟨S1024, .f32⟩ : BufTy).Contents (Elt F)) ]

set_option maxRecDepth 8192 in
set_option maxHeartbeats 4000000 in
/-- The program is the first line, the launch, the second line. -/
theorem main_eq (d : Dev nD) : main (F := F) d = (seq opsA >>= fun _ => sc.run d 0 >>= fun _ => seq opsB) := rfl

set_option maxRecDepth 8192 in
theorem opsA_tc : (opsA : List (HloOp τ sig (Elt F))).Forall fun op => op.bufs ⊆ tcRefs τ sig :=
  ⟨nullary_bufs_sub .., unary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., reshape_bufs_sub ..⟩

set_option maxRecDepth 8192 in
theorem opsB_tc : (opsB : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

theorem opsA_sub : ∀ op ∈ (opsA : List (HloOp τ sig (Elt F))), op.bufs ⊆ Pipeline.ucRefs τ sig := fun op h =>
  Pipeline.sub_ucRefs op (List.forall_iff_forall_mem.1 opsA_tc op h)
theorem opsB_sub : ∀ op ∈ (opsB : List (HloOp τ sig (Elt F))), op.bufs ⊆ Pipeline.ucRefs τ sig := fun op h =>
  Pipeline.sub_ucRefs op (List.forall_iff_forall_mem.1 opsB_tc op h)

set_option maxRecDepth 8192 in
theorem opsA_fresh : ∀ op ∈ (opsA : List (HloOp τ sig (Elt F))), op.fresh = ∅ :=
  List.forall_iff_forall_mem.1 (forall_fresh_of_map rfl)
set_option maxRecDepth 8192 in
theorem opsB_fresh : ∀ op ∈ (opsB : List (HloOp τ sig (Elt F))), op.fresh = ∅ :=
  List.forall_iff_forall_mem.1 (forall_fresh_of_map rfl)

/-! ## What the host computes -/

/-- The lengths, each at least one. -/
def lens (a1 : S1024.Idx → BitVec 32) : S1024.Idx → BitVec 32 := maxsi a1 (broadcastInDim S1024 ![] bcast_S_S1024 (constantI S_ 32 1#32))
/-- The rows in order of length, longest first. -/
def order (a1 : S1024.Idx → BitVec 32) : S1024.Idx → BitVec 32 :=
  (Host.sort2 S1024 0 comparator_i32_i32_d0 (negi (lens a1)) (iotaInDim S1024 32 0)).2
/-- That order, a negative row counted from the end, as a column of row numbers. -/
def pick (a1 : S1024.Idx → BitVec 32) : S1024x1.Idx → BitVec 32 :=
  broadcastInDim S1024x1 ![0] bcast_S1024_S1024x1_0
    (select (cmpi .slt (order a1) (broadcastInDim S1024 ![] bcast_S_S1024 (constantI S_ 32 0#32)))
      (addi (order a1) (broadcastInDim S1024 ![] bcast_S_S1024 (constantI S_ 32 1024#32))) (order a1))
/-- The lengths in that order. -/
def slens (a1 : S1024.Idx → BitVec 32) : S1024.Idx → BitVec 32 := Host.gather gather_S1024_S1024x1_S1024_n_0_n_n_0_1_1 (lens a1) (pick a1)
/-- The rows of tokens in that order, the tokens past a row's length put at zero. -/
def toks (a0 : S1024x200.Idx → BitVec 32) (a1 : S1024.Idx → BitVec 32) : S1024x200.Idx → BitVec 32 :=
  select
    (cmpi .slt (broadcastInDim S1024x200 ![0, 1] bcast_S1x200_S1024x200_0_1 (broadcastInDim S1x200 ![1] bcast_S200_S1x200_1 (iotaInDim S200 32 0)))
      (broadcastInDim S1024x200 ![0, 1] bcast_S1024x1_S1024x200_0_1 (broadcastInDim S1024x1 ![0] bcast_S1024_S1024x1_0 (slens a1))))
    (Host.gather gather_S1024x200_S1024x1_S1024x200_1_0_n_n_0_1_1200 a0 (pick a1))
    (broadcastInDim S1024x200 ![] bcast_S_S1024x200 (constantI S_ 32 0#32))
/-- The same tokens in one row. -/
def flat (a0 : S1024x200.Idx → BitVec 32) (a1 : S1024.Idx → BitVec 32) : S1x204800.Idx → BitVec 32 :=
  shapeCast S1x204800 (toks a0 a1) shapeCasts_S1024x200_S1x204800

abbrev tc (b : Ref sig .tc) : DevRef τ sig := Proc.devRef .tc b

variable (V : Valuation τ sig (Elt F))

set_option maxRecDepth 8192 in
set_option maxHeartbeats 8000000 in
theorem opsA_idx : after opsA V (tc main_v25) = flat (V (tc main_arg0)) (V (tc main_arg1)) := by
  simp only [tc, opsA, TRef.binary, TRef.nullary, TRef.ternary, TRef.unary, TRef.toBuf, TRef.ofBuf, cast_eq]
  after_results_simp <;> rfl

set_option maxRecDepth 8192 in
set_option maxHeartbeats 8000000 in
theorem opsA_order : after opsA V (tc main_v3) = order (V (tc main_arg1)) := by
  simp only [tc, opsA, TRef.binary, TRef.nullary, TRef.ternary, TRef.unary, TRef.toBuf, TRef.ofBuf, cast_eq]
  after_results_simp <;> rfl

set_option maxRecDepth 8192 in
set_option maxHeartbeats 8000000 in
theorem opsA_slens : after opsA V (tc main_v10) = slens (V (tc main_arg1)) := by
  simp only [tc, opsA, TRef.binary, TRef.nullary, TRef.ternary, TRef.unary, TRef.toBuf, TRef.ofBuf, cast_eq]
  after_results_simp <;> rfl

/-- The arrays the first line leaves as they were: the arguments and the kernel's result. -/
theorem opsA_same (b : Ref sig .tc) (hb : b ∈ [main_arg0, main_arg1, main_arg2, main_arg3, main_v26]) : after opsA V (tc b) = V (tc b) := by
  simp only [List.mem_cons, List.not_mem_nil, or_false] at hb
  rcases hb with rfl | rfl | rfl | rfl | rfl <;>
  · simp only [tc, opsA, TRef.binary, TRef.nullary, TRef.ternary, TRef.unary, TRef.toBuf, TRef.ofBuf, cast_eq]
    after_results_simp

/-- The arrays the second line leaves as they were. -/
theorem opsB_same (b : Ref sig .tc) (hb : b ∈ [main_arg0, main_arg1, main_arg2, main_arg3]) : after opsB V (tc b) = V (tc b) := by
  simp only [List.mem_cons, List.not_mem_nil, or_false] at hb
  rcases hb with rfl | rfl | rfl | rfl <;>
  · simp only [tc, opsB]
    after_results_simp

theorem opsB_out : after opsB V (tc main_v27) = shapeCast S1024x200x128 (V (tc main_v26)) shapeCasts_S204800x128_S1024x200x128 := by
  simp only [tc, opsB]
  after_results_simp <;> rfl

theorem opsB_lens : after opsB V (tc main_v28) = sitofp .f32 (V (tc main_v10)) := by
  simp only [tc, opsB]
  after_results_simp <;> rfl

theorem opsB_scores : after opsB V (tc main_v35) = Host.gather gather_S1024_S1024x1_S1024_n_0_n_n_0_1_1 (V (tc main_arg2))
    (broadcastInDim S1024x1 ![0] bcast_S1024_S1024x1_0
    (select (cmpi .slt (V (tc main_v3)) (broadcastInDim S1024 ![] bcast_S_S1024 (constantI S_ 32 0#32)))
      (addi (V (tc main_v3)) (broadcastInDim S1024 ![] bcast_S_S1024 (constantI S_ 32 1024#32))) (V (tc main_v3)))) := by
  simp only [tc, opsB]
  after_results_simp <;> rfl

end Cert.Proof.GatherK

end
-- ==== Proof.Run.lean ====
/-
  The run of the whole program: the host operations, the launch between them, and what every array holds at the end.
-/
module

public import proofs.«01_k».proof.Proof.Host

@[expose] public section

noncomputable section

namespace Cert.Proof.GatherK

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq launchContents)
open Idealize.ShloMosaic.Tactic

variable {F : FTy → Type}
local notation "𝕄" => MT nD τ sig (HIx 1) (Elt F) ℕ UU ℕ

/-! ## The arrays the launch uses, dealt to the tiles -/

section Dealing

variable (T : Dev nD → S100000x128.Idx → Elt F .f32) (I : Dev nD → S1x204800.Idx → Elt F .i32)

theorem bigSep_tileNo (Φ : Fin 32 → sProp 𝕄) :
    bigSep Finset.univ Φ = bigSep Finset.univ fun c : Fin 2 => bigSep Finset.univ fun s : Fin 16 => Φ (tileNo c s) := by
  rw [bigSep_univ_equiv (finProdFinEquiv : Fin 2 × Fin 16 ≃ Fin 32), bigSep_univ_prod]
  rfl

theorem chunkNo_eq (c : Fin 2) (s : Fin 16) (n : Fin 50) : chunkNo (at2 c s) n = (finProdFinEquiv : Fin 32 × Fin 50 ≃ Fin 1600) (tileNo c s, n) := by
  apply Fin.ext
  show 50 * (16 * c.val + s.val) + n.val = n.val + 50 * (s.val + 16 * c.val)
  omega

/-- The result array is every tile's chunks. -/
theorem out_chunks (d : Dev nD) (f : S204800x128.Idx → Elt F .f32) :
    (oLoc d ↦{fullShare} f : sProp 𝕄)
      = bigSep Finset.univ fun c : Fin 2 => bigSep Finset.univ fun s : Fin 16 => Chunks d (at2 c s) f := by
  rw [show (oLoc d ↦{fullShare} f : sProp 𝕄) = oLoc d ↦[(Finset.univ : Finset (Fin 1600)).biUnion ochunkSet]{fullShare} f by rw [ochunk_cover],
    pointsTo_biUnion Finset.univ _ ochunk_disjoint, bigSep_univ_equiv (finProdFinEquiv : Fin 32 × Fin 50 ≃ Fin 1600), bigSep_univ_prod,
    bigSep_tileNo]
  refine bigSep_congr fun c _ => bigSep_congr fun s _ => ?_
  unfold Chunks
  refine bigSep_congr fun n _ => ?_
  rw [chunkNo_eq]

/-- A whole array is the 32 tiles' shares of it. -/
theorem whole_parts (ℓ : Loc nD τ sig) (f : Buf (Elt F) ℓ) :
    (ℓ ↦{fullShare} f : sProp 𝕄) = bigSep Finset.univ fun w : Fin 32 => ℓ ↦{part w} f :=
  pointsTo_piecesOf Finset.univ f (o := 32) (by decide) fullShare

/-- The three arrays, whole, are what the SparseCores hold. -/
theorem deals_eq (d : Dev nD) (f : S204800x128.Idx → Elt F .f32) :
    (bigSep Finset.univ fun c : Fin 2 => Deals T I d c f : sProp 𝕄)
      = iprop((iLoc d ↦{fullShare} I d) ∗ (tLoc d ↦{fullShare} T d) ∗ oLoc d ↦{fullShare} f) := by
  unfold Deals Deal
  simp only [bigSep_sep']
  rw [← out_chunks, ← bigSep_tileNo (fun w => idxPts d (I d) (part w)), ← bigSep_tileNo (fun w => (tLoc d ↦{part w} T d : sProp 𝕄))]
  rw [whole_parts (iLoc d) (I d), whole_parts (tLoc d) (T d)]

end Dealing

section Main

variable (m : (ℓ : Loc nD τ sig) → Buf (Elt F) ℓ) (ρ : Dev nD → PrngReg)

/-! ## What the arrays hold -/

/-- The table at the launch. -/
abbrev mT (d : Dev nD) : S100000x128.Idx → Elt F .f32 := m (tLoc d)
/-- The token indices the host lays out. -/
abbrev mI (d : Dev nD) : S1x204800.Idx → Elt F .i32 := flat (m ((SparseCore.T d).loc main_arg0)) (m ((SparseCore.T d).loc main_arg1))
/-- The kernel's result array at the launch. -/
abbrev mO (d : Dev nD) : S204800x128.Idx → Elt F .f32 := m (oLoc d)

variable [FloatOps F]

/-- The arrays after the host's first line. -/
def V₁ (d : Dev nD) : Valuation τ sig (Elt F) := after opsA (launchContents m d)
/-- The arrays after the launch: the kernel's result is the gathered rows. -/
def V₂ (d : Dev nD) : Valuation τ sig (Elt F) := Function.update (V₁ m d) (tc main_v26) (gathered (mT m d) (mI m d))
/-- The arrays at the end. -/
def V₃ (d : Dev nD) : Valuation τ sig (Elt F) := after opsB (V₂ m d)

/-- The arrays the launch uses. -/
def used : Finset (DevRef τ sig) := {tc main_v25, tc main_arg3, tc main_v26}

theorem mem_uc (b : Ref sig .tc) (h : b.isScoped = false) : tc b ∈ Pipeline.ucRefs τ sig :=
  Finset.mem_filter.mpr ⟨StableHlo.devRef_mem_tcRefs b, by
    rw [show (tc b : DevRef τ sig).isScoped = b.isScoped from rfl, h]; decide⟩

theorem used_sub : used ⊆ Pipeline.ucRefs τ sig := by
  intro b hb
  simp only [used, Finset.mem_insert, Finset.mem_singleton] at hb
  rcases hb with rfl | rfl | rfl
  · exact mem_uc main_v25 (by decide)
  · exact mem_uc main_arg3 (by decide)
  · exact mem_uc main_v26 (by decide)

theorem held_used (d : Dev nD) (W : Valuation τ sig (Elt F)) :
    (held (SparseCore.T d) used W : sProp 𝕄)
      = iprop((iLoc d ↦{fullShare} W (tc main_v25)) ∗ (tLoc d ↦{fullShare} W (tc main_arg3)) ∗ oLoc d ↦{fullShare} W (tc main_v26)) := by
  unfold held used
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

theorem V₁_idx (d : Dev nD) : V₁ m d (tc main_v25) = mI m d := opsA_idx _
theorem V₁_tab (d : Dev nD) : V₁ m d (tc main_arg3) = mT m d := opsA_same _ main_arg3 (by decide)
theorem V₁_out (d : Dev nD) : V₁ m d (tc main_v26) = mO m d := opsA_same _ main_v26 (by decide)
theorem V₂_out (d : Dev nD) : V₂ m d (tc main_v26) = gathered (mT m d) (mI m d) := Function.update_self _ _ _
theorem V₂_ne (d : Dev nD) (b : DevRef τ sig) (h : b ≠ tc main_v26) : V₂ m d b = V₁ m d b := Function.update_of_ne h _ _
theorem V₂_idx (d : Dev nD) : V₂ m d (tc main_v25) = mI m d := (V₂_ne m d _ (StableHlo.devRef_ne_of_ne (by decide))).trans (V₁_idx m d)
theorem V₂_tab (d : Dev nD) : V₂ m d (tc main_arg3) = mT m d := (V₂_ne m d _ (StableHlo.devRef_ne_of_ne (by decide))).trans (V₁_tab m d)

/-! ## The launch's ghost state -/

def u₀ : UU := (initOf (K (F := F)).hsCells (K (F := F)).hsToks, 1)

theorem bigSep_nothing {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (mT m) (mI m) (mO m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (mT m) (mI m) (mO m)).x q thr) = bigSep Finset.univ fun _ => iprop(emp) from
    bigSep_congr fun _ _ => bigSep_univ_of_subsingleton (0 : Fin 1), bigSep_nothing]
  iempintro

/-! ## The TensorCore's program -/

/-- What the TensorCore ends holding: every array, at its final contents. -/
def Final (d : Dev nD) : sProp 𝕄 := held (SparseCore.T d) (Pipeline.ucRefs τ sig) (V₃ m d)

theorem st_all (d : Dev nD) : (bigSep Finset.univ fun c : Fin ((K (F := F)).nCore 0) => (P (mT m) (mI m) (mO m)).st 0 d c)
    = (held (SparseCore.T d) used (V₁ m d) : sProp 𝕄) := by
  rw [held_used, V₁_idx, V₁_tab, V₁_out, ← deals_eq]
  exact bigSep_cores fun c => Deals (mT m) (mI m) d c (mO m d)

theorem dn_all (d : Dev nD) : (bigSep Finset.univ fun c : Fin ((K (F := F)).nCore 0) => (P (mT m) (mI m) (mO m)).dn 0 d c)
    = (held (SparseCore.T d) used (V₂ m d) : sProp 𝕄) := by
  rw [held_used, V₂_idx, V₂_tab, V₂_out, ← deals_eq]
  exact bigSep_cores fun c => Deals (mT m) (mI m) d c (gathered (mT m d) (mI m d))

theorem rest_same (d : Dev nD) : (held (SparseCore.T d) (Pipeline.ucRefs τ sig \ used) (V₁ m d) : sProp 𝕄)
    = held (SparseCore.T d) (Pipeline.ucRefs τ sig \ used) (V₂ m d) :=
  held_congr _ fun b hb => (V₂_ne m d b fun e => (Finset.mem_sdiff.mp hb).2 (by rw [e]; simp [used])).symm

theorem hmain (κ : GSem nD τ sig → ℕ) (d : Dev nD) :
    iprop((K (F := F)).ctx EH (P (mT m) (mI m) (mO m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Final m d ∗ (K (F := F)).tcEnd d) := by
  unfold SparseCore.Cfg.tcRes SparseCore.Cfg.tcEnd Final
  rw [main_eq, show (unscopedBufs d (fun b => m ((SparseCore.T d).loc b)) : sProp 𝕄) = held (SparseCore.T d) (Pipeline.ucRefs τ sig) (launchContents m d) from
    Pipeline.unscopedBufs_held d (launchContents m d)]
  iintro ⟨#Hctx, Hst, ⟨Hb, Hbufs, Hts, -⟩, -⟩
  iapply (wp_seq 𝒱 none Set.univ d (Pipeline.ucRefs τ sig) _ opsA opsA_sub opsA_fresh (launchContents m d)) $$ [Hb Hbufs]
  · isplitl [Hb] <;> iassumption
  iintro ⟨Hb, Hbufs⟩
  ihave Hbufs := (Entails.of_eq (show (held (SparseCore.T d) (Pipeline.ucRefs τ sig) (after opsA (launchContents m d)) : sProp 𝕄)
    = iprop(held (SparseCore.T d) used (V₁ m d) ∗ held (SparseCore.T d) (Pipeline.ucRefs τ sig \ used) (V₂ m d)) by
      rw [← rest_same]; exact held_sub_split _ used_sub _)) $$ Hbufs
  icases Hbufs with ⟨Hu, Hr⟩
  rw [wp_bind]
  iapply ((K (F := F)).wp_run (D (F := F)) 𝒱 (EH := EH) (P := P (mT m) (mI m) (mO m)) κ d 0) $$ [Hst Hu Hr Hb Hts]
  isplitr; · iexact Hctx
  isplitl [Hst]; · iexact Hst
  isplitl [Hu]; · rw [st_all]; iexact Hu
  iintro ⟨Hst, Hdn⟩
  ihave Hdn := (Entails.of_eq (dn_all m d)) $$ Hdn
  rw [show (seq opsB : Prog (TpuEff nD τ sig (Elt F) _ .tc) PUnit) = (seq opsB >>= fun u => Pure.pure u) from (bind_pure _).symm]
  iapply (wp_seq 𝒱 none Set.univ d (Pipeline.ucRefs τ sig) _ opsB opsB_sub opsB_fresh (V₂ m d)) $$ [Hb Hdn Hr]
  · isplitl [Hb]; · iexact Hb
    rw [held_sub_split (SparseCore.T d) used_sub]
    isplitl [Hdn] <;> iassumption
  iintro ⟨Hb, Hbufs⟩
  rw [wp_pure]; imodintro
  isplitl [Hst]; · iexact Hst
  isplitl [Hbufs]; · iexact Hbufs
  isplitl [Hb] <;> iassumption

/-! ## The run -/

/-- Every array of the TensorCore's holds its final contents. -/
def fq (d : Dev nD) (s' : Phys nD τ sig (Elt F)) : Prop := ∀ b ∈ Pipeline.ucRefs τ sig, s'.mem.mem (d, b) = V₃ m d b

theorem hfin (d : Dev nD) (s' : Phys nD τ sig (Elt F)) : iprop(Final m d ∗ SI s') ⊢ (⌜fq m d s'⌝ : sProp 𝕄) := by
  unfold Final held
  iintro ⟨H, HSI⟩
  iapply (SI_pointsTo_bufs_agree (qs := fun _ => fullShare) (Pipeline.ucRefs τ sig)) $$ [HSI H]
  isplitl [HSI]; · iexact HSI
  iexact H

def QC : PUnit × MemSt nD τ sig (Elt F) → Prop :=
  fun r => (∀ d : Dev nD, ∀ b ∈ Pipeline.ucRefs τ sig, r.2.mem (d, b) = V₃ m d b) ∧ r.2.sem = fun _ => 0

/-- Every run ends, every array at its final contents and every semaphore at zero, when every token index names a row of the table. -/
theorem run_main [∀ e, Nonempty (Elt F e)] (hI : ∀ d j, (mI m d j).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (mT m) (mI m) (mO m)) (A := ∅) facts v₀
    (fun q hq => match q with | 0 => nomatch hq)
    (fun q _ => match q with | 0 => tileObl (mT m) (mI m) (mO m) hI)
    (fun q _ => match q with | 0 => SparseCore.Cfg.VecSplit.of_plain (vecSplit (mT m) (mI m) (mO m)))
    m ρ main (fun _ => iprop(emp)) (Final m) (u₀ (F := F)) (sep_elim_left.trans (hu₀ m)) (hmain m ρ) (fq m) (hfin m) (QC m) (fun _ h hz => ⟨h, hz⟩)

end Main

end Cert.Proof.GatherK

end
-- ==== Proof.Ref.lean ====
/-
  What the reference computes, index by index: which row a row number picks, the tokens with the places past a row's
  length put at zero, and the rows of the table at the tokens.
-/
module

public import proofs.«01_k».proof.Proof.Host
public import proofs.«01_k».proof.Proof.Gen.ReferenceIdeal
public import proofs.«01_k».proof.Proof.Gen.ReferenceIdeal.Run
public import Idealize.ShloMosaic.Lib.ReduceAll
public import Idealize.ShloMosaic.Lib.WordArith

@[expose] public section

noncomputable section

namespace Cert.Proof.GatherK

open Cert.ReferenceIdeal Cert.ReferenceIdeal.Gen
open Idealize.ShloMosaic

variable {F : FTy → Type}

/-! ## Which row a row number picks -/

/-- The row that entry `b` of a column of row numbers picks: negative numbers pick the first row, numbers too great the last. -/
def rowAt (p : S1024x1.Idx → BitVec 32) (b : Fin 1024) : Fin 1024 := ⟨min (p (ix2 b 0)).toInt.toNat 1023, by omega⟩

/-- The row of the table that a word picks, in the same manner. -/
def tabRow (w : BitVec 32) : Fin 100000 := ⟨min w.toInt.toNat 99999, by omega⟩

theorem pick_lens {α : Type} (x : S1024.Idx → α) (p : S1024x1.Idx → BitVec 32) (b : Fin 1024) :
    Host.gather gather_S1024_S1024x1_S1024_n_0_n_n_0_1_1 x p (ix1 b) = x (ix1 (rowAt p b)) := by
  refine congrArg x (funext fun a => Fin.ext ?_)
  match a with
  | ⟨0, _⟩ =>
    have e : gather_S1024_S1024x1_S1024_n_0_n_n_0_1_1.siIdx (ix1 b) ⟨0, by decide⟩ = ix2 b 0 := by
      funext i; match i with
      | ⟨0, _⟩ => rfl
      | ⟨1, _⟩ => rfl
    show min (p (gather_S1024_S1024x1_S1024_n_0_n_n_0_1_1.siIdx (ix1 b) ⟨0, by decide⟩)).toInt.toNat 1023 + 0 + 0 = _
    rw [e]; rfl

theorem pick_rows {α : Type} (x : S1024x200.Idx → α) (p : S1024x1.Idx → BitVec 32) (b : Fin 1024) (l : Fin 200) :
    Host.gather Cert.KernelIdeal.gather_S1024x200_S1024x1_S1024x200_1_0_n_n_0_1_1200 x p (ix2 b l) = x (ix2 (rowAt p b) l) := by
  refine congrArg x (funext fun a => Fin.ext ?_)
  match a with
  | ⟨0, _⟩ =>
    have e : Cert.KernelIdeal.gather_S1024x200_S1024x1_S1024x200_1_0_n_n_0_1_1200.siIdx (ix2 b l) ⟨0, by decide⟩ = ix2 b 0 := by
      funext i; match i with
      | ⟨0, _⟩ => rfl
      | ⟨1, _⟩ => rfl
    show min (p (Cert.KernelIdeal.gather_S1024x200_S1024x1_S1024x200_1_0_n_n_0_1_1200.siIdx (ix2 b l) ⟨0, by decide⟩)).toInt.toNat 1023 + 0 + 0 = _
    rw [e]; rfl
  | ⟨1, _⟩ => show 0 + 0 + l.val = l.val; omega

theorem pick_cube {α : Type} (x : S1024x200x128.Idx → α) (p : S1024x1.Idx → BitVec 32) (b : Fin 1024) (l : Fin 200) (k : Fin 128) :
    Host.gather gather_S1024x200x128_S1024x1_S1024x200x128_12_0_n_n_0_1_1200128 x p (ix3 b l k) = x (ix3 (rowAt p b) l k) := by
  refine congrArg x (funext fun a => Fin.ext ?_)
  match a with
  | ⟨0, _⟩ =>
    have e : gather_S1024x200x128_S1024x1_S1024x200x128_12_0_n_n_0_1_1200128.siIdx (ix3 b l k) ⟨0, by decide⟩ = ix2 b 0 := by
      funext i; match i with
      | ⟨0, _⟩ => rfl
      | ⟨1, _⟩ => rfl
    show min (p (gather_S1024x200x128_S1024x1_S1024x200x128_12_0_n_n_0_1_1200128.siIdx (ix3 b l k) ⟨0, by decide⟩)).toInt.toNat 1023 + 0 + 0 = _
    rw [e]; rfl
  | ⟨1, _⟩ => show 0 + 0 + l.val = l.val; omega
  | ⟨2, _⟩ => show 0 + 0 + k.val = k.val; omega

theorem pick_table {α : Type} (x : S100000x128.Idx → α) (q : S1024x200x1.Idx → BitVec 32) (b : Fin 1024) (l : Fin 200) (k : Fin 128) :
    Host.gather gather_S100000x128_S1024x200x1_S1024x200x128_2_0_n_n_0_2_1128 x q (ix3 b l k) = x (ix2 (tabRow (q (ix3 b l 0))) k) := by
  refine congrArg x (funext fun a => Fin.ext ?_)
  match a with
  | ⟨0, _⟩ =>
    have e : gather_S100000x128_S1024x200x1_S1024x200x128_2_0_n_n_0_2_1128.siIdx (ix3 b l k) ⟨0, by decide⟩ = ix3 b l 0 := by
      funext i; match i with
      | ⟨0, _⟩ => rfl
      | ⟨1, _⟩ => rfl
      | ⟨2, _⟩ => rfl
    show min (q (gather_S100000x128_S1024x200x1_S1024x200x128_2_0_n_n_0_2_1128.siIdx (ix3 b l k) ⟨0, by decide⟩)).toInt.toNat 99999 + 0 + 0 = _
    rw [e]; rfl
  | ⟨1, _⟩ => show 0 + 0 + k.val = k.val; omega

/-! ## Broadcasts at an index -/

section Spread
variable {α : Type}

theorem spread_row (x : S200.Idx → α) (b : Fin 1024) (l : Fin 200) :
    broadcastInDim S1024x200 ![0, 1] bcast_S1x200_S1024x200_0_1 (broadcastInDim S1x200 ![1] bcast_S200_S1x200_1 x) (ix2 b l) = x (ix1 l) :=
  congrArg x (funext fun a => match a with | ⟨0, _⟩ => rfl)

theorem spread_col (x : S1024.Idx → α) (b : Fin 1024) (l : Fin 200) :
    broadcastInDim S1024x200 ![0, 1] bcast_S1024x1_S1024x200_0_1 (broadcastInDim S1024x1 ![0] bcast_S1024_S1024x1_0 x) (ix2 b l) = x (ix1 b) :=
  congrArg x (funext fun a => match a with | ⟨0, _⟩ => rfl)

theorem spread_unit (x : S1024x200.Idx → α) (b : Fin 1024) (l : Fin 200) (u : Fin 1) :
    broadcastInDim S1024x200x1 ![0, 1] bcast_S1024x200_S1024x200x1_0_1 x (ix3 b l u) = x (ix2 b l) :=
  congrArg x (funext fun a => match a with | ⟨0, _⟩ => rfl | ⟨1, _⟩ => rfl)

theorem spread_deep (x : S1024x200.Idx → α) (b : Fin 1024) (l : Fin 200) (k : Fin 128) :
    broadcastInDim S1024x200x128 ![0, 1] bcast_S1024x200_S1024x200x128_0_1 x (ix3 b l k) = x (ix2 b l) :=
  congrArg x (funext fun a => match a with | ⟨0, _⟩ => rfl | ⟨1, _⟩ => rfl)

end Spread

/-! ## The tokens -/

/-- The tokens, those past their row's length put at zero. -/
def masked (a0 : S1024x200.Idx → BitVec 32) (a1 : S1024.Idx → BitVec 32) : S1024x200.Idx → BitVec 32 :=
  select
    (cmpi .slt (broadcastInDim S1024x200 ![0, 1] bcast_S1x200_S1024x200_0_1 (broadcastInDim S1x200 ![1] bcast_S200_S1x200_1 (iotaInDim S200 32 0)))
      (broadcastInDim S1024x200 ![0, 1] bcast_S1024x1_S1024x200_0_1 (broadcastInDim S1024x1 ![0] bcast_S1024_S1024x1_0 (lens a1))))
    a0 (broadcastInDim S1024x200 ![] bcast_S_S1024x200 (constantI S_ 32 0#32))

theorem masked_at (a0 : S1024x200.Idx → BitVec 32) (a1 : S1024.Idx → BitVec 32) (b : Fin 1024) (l : Fin 200) :
    masked a0 a1 (ix2 b l)
      = Scalar.select (IntOp.cmpi .slt (iotaInDim S200 32 0 (ix1 l)) (lens a1 (ix1 b))) (a0 (ix2 b l)) 0#32 := by
  rw [← spread_row (iotaInDim S200 32 0) b l, ← spread_col (lens a1) b l]; rfl

theorem toks_at (a0 : S1024x200.Idx → BitVec 32) (a1 : S1024.Idx → BitVec 32) (b : Fin 1024) (l : Fin 200) :
    toks a0 a1 (ix2 b l)
      = Scalar.select (IntOp.cmpi .slt (iotaInDim S200 32 0 (ix1 l)) (slens a1 (ix1 b)))
          (Host.gather Cert.KernelIdeal.gather_S1024x200_S1024x1_S1024x200_1_0_n_n_0_1_1200 a0 (pick a1) (ix2 b l)) 0#32 := by
  rw [← spread_row (iotaInDim S200 32 0) b l, ← spread_col (slens a1) b l]; rfl

/-- The kernel's tokens are the reference's, rows in the order of their lengths. -/
theorem toks_masked (a0 : S1024x200.Idx → BitVec 32) (a1 : S1024.Idx → BitVec 32) (b : Fin 1024) (l : Fin 200) :
    toks a0 a1 (ix2 b l) = masked a0 a1 (ix2 (rowAt (pick a1) b) l) := by
  rw [toks_at, masked_at, pick_rows]
  unfold slens
  rw [show Host.gather Cert.KernelIdeal.gather_S1024_S1024x1_S1024_n_0_n_n_0_1_1 (lens a1) (pick a1) (ix1 b) = lens a1 (ix1 (rowAt (pick a1) b))
    from pick_lens (lens a1) (pick a1) b]

/-- Every token is a row of the table when the argument's are. -/
theorem masked_lt (a0 : S1024x200.Idx → BitVec 32) (a1 : S1024.Idx → BitVec 32) (h : ∀ j, (a0 j).toNat < 100000) (j : S1024x200.Idx) :
    (masked a0 a1 j).toNat < 100000 := by
  obtain ⟨b, l, rfl⟩ : ∃ (b : Fin 1024) (l : Fin 200), j = ix2 b l := ⟨j 0, j 1, eq_ix2 j⟩
  rw [masked_at]
  unfold Scalar.select
  split
  · exact h _
  · decide

theorem toks_lt (a0 : S1024x200.Idx → BitVec 32) (a1 : S1024.Idx → BitVec 32) (h : ∀ j, (a0 j).toNat < 100000) (j : S1024x200.Idx) :
    (toks a0 a1 j).toNat < 100000 := by
  obtain ⟨b, l, rfl⟩ : ∃ (b : Fin 1024) (l : Fin 200), j = ix2 b l := ⟨j 0, j 1, eq_ix2 j⟩
  rw [toks_masked]
  exact masked_lt a0 a1 h _

/-! ## The rows of the table -/

theorem word_toInt {w : BitVec 32} (h : w.toNat < 100000) : w.toInt = (w.toNat : ℤ) := by
  rw [BitVec.toInt_eq_toNat_cond]; split <;> omega

theorem tabRow_eq {w : BitVec 32} (h : w.toNat < 100000) : tabRow w = rowOf w := by
  apply Fin.ext
  show min w.toInt.toNat 99999 = w.toNat % 100000
  rw [word_toInt h]; omega

/-- A row number of the table, a negative one counted from the end. -/
def wrap (w : S1024x200.Idx → BitVec 32) : S1024x200.Idx → BitVec 32 :=
  select (cmpi .slt w (broadcastInDim S1024x200 ![] bcast_S_S1024x200 (constantI S_ 32 0#32)))
    (addi w (broadcastInDim S1024x200 ![] bcast_S_S1024x200 (constantI S_ 32 100000#32))) w

theorem wrap_eq (w : S1024x200.Idx → BitVec 32) (h : ∀ j, (w j).toNat < 100000) : wrap w = w := by
  funext j
  show Scalar.select (IntOp.cmpi .slt (w j) 0#32) (IntOp.addi (w j) 100000#32) (w j) = w j
  unfold Scalar.select
  split
  · rename_i e
    have e' := IntOp.cmpi_slt.1 e
    rw [word_toInt (h j)] at e'
    have : (0#32 : BitVec 32).toInt = 0 := by decide
    omega
  · rfl

/-- Whether each row number lies in the table. -/
def inTable (w : S1024x200.Idx → BitVec 32) : S1024x200.Idx → BitVec 1 :=
  Host.reduce IntOp.andi
    (andi (cmpi .sge (broadcastInDim S1024x200x1 ![0, 1] bcast_S1024x200_S1024x200x1_0_1 w) (broadcastInDim S1024x200x1 ![] bcast_S_S1024x200x1 (constantI S_ 32 0#32)))
      (cmpi .sle (broadcastInDim S1024x200x1 ![0, 1] bcast_S1024x200_S1024x200x1_0_1 w)
        (broadcastInDim S1024x200x1 ![0, 1, 2] bcast_S1x1x1_S1024x200x1_0_1_2 (broadcastInDim S1x1x1 ![2] bcast_S1_S1x1x1_2 (constantI S1 32 99999#32)))))
    (constantI S_ 1 1#1) reducesTo_S1024x200x1_S1024x200_d2 h_S_

theorem inTable_eq (w : S1024x200.Idx → BitVec 32) (h : ∀ j, (w j).toNat < 100000) (j : S1024x200.Idx) : inTable w j = 1#1 := by
  refine Host.reduce_andi_one _ _ _ _ j rfl fun i => ?_
  show IntOp.andi (IntOp.cmpi .sge (broadcastInDim S1024x200x1 ![0, 1] bcast_S1024x200_S1024x200x1_0_1 w i) 0#32)
    (IntOp.cmpi .sle (broadcastInDim S1024x200x1 ![0, 1] bcast_S1024x200_S1024x200x1_0_1 w i) 99999#32) = 1#1
  obtain ⟨b, l, u, rfl⟩ : ∃ (b : Fin 1024) (l : Fin 200) (u : Fin 1), i = ix3 b l u := ⟨i 0, i 1, i 2, eq_ix3 i⟩
  rw [spread_unit]
  have hw := h (ix2 b l)
  rw [IntOp.cmpi_sge.2 (by rw [word_toInt hw]; show (0 : ℤ) ≤ _; omega), IntOp.cmpi_sle.2 (by rw [word_toInt hw]; show _ ≤ (99999 : ℤ); omega)]
  rfl

variable [FloatOps F]

/-- The rows of the table at the row numbers given, each place of a row number outside the table filled in. -/
def look (T : S100000x128.Idx → Elt F .f32) (w : S1024x200.Idx → BitVec 32) : S1024x200x128.Idx → Elt F .f32 :=
  select (broadcastInDim S1024x200x128 ![0, 1] bcast_S1024x200_S1024x200x128_0_1 (inTable (wrap w)))
    (Host.gather gather_S100000x128_S1024x200x1_S1024x200x128_2_0_n_n_0_2_1128 T (broadcastInDim S1024x200x1 ![0, 1] bcast_S1024x200_S1024x200x1_0_1 (wrap w)))
    (broadcastInDim S1024x200x128 ![] bcast_S_S1024x200x128 (constant S_ .f32 0x7FC00000#32))

theorem look_at (T : S100000x128.Idx → Elt F .f32) (w : S1024x200.Idx → BitVec 32) (h : ∀ j, (w j).toNat < 100000)
    (b : Fin 1024) (l : Fin 200) (k : Fin 128) : look T w (ix3 b l k) = T (ix2 (rowOf (w (ix2 b l))) k) := by
  unfold look
  rw [wrap_eq w h]
  show Scalar.select (broadcastInDim S1024x200x128 ![0, 1] bcast_S1024x200_S1024x200x128_0_1 (inTable w) (ix3 b l k))
    (Host.gather gather_S100000x128_S1024x200x1_S1024x200x128_2_0_n_n_0_2_1128 T (broadcastInDim S1024x200x1 ![0, 1] bcast_S1024x200_S1024x200x1_0_1 w) (ix3 b l k)) _ = _
  rw [spread_deep, inTable_eq w h, pick_table, spread_unit w b l 0, tabRow_eq (h _)]
  rfl

/-- The reference's first result: the rows of the table at the tokens, then put in the order of the lengths. -/
def embed (T : S100000x128.Idx → Elt F .f32) (a0 : S1024x200.Idx → BitVec 32) (a1 : S1024.Idx → BitVec 32) : S1024x200x128.Idx → Elt F .f32 :=
  Host.gather gather_S1024x200x128_S1024x1_S1024x200x128_12_0_n_n_0_1_1200128 (look T (masked a0 a1)) (pick a1)

theorem flat_at (a0 : S1024x200.Idx → BitVec 32) (a1 : S1024.Idx → BitVec 32) (b : Fin 1024) (l : Fin 200) (h : 200 * b.val + l.val < 204800) :
    flat a0 a1 (atI ⟨200 * b.val + l.val, h⟩) = toks a0 a1 (ix2 b l) := by
  unfold flat atI
  refine shapeCast_apply (toks a0 a1) _ _ (ix2 b l) ?_
  rw [Shape.rowMajor_val_two, Shape.rowMajor_val_two]
  show b.val * 200 + l.val = 0 * 204800 + (200 * b.val + l.val)
  omega

/-- What the launch leaves, under the result's shape, is the reference's first result. -/
theorem embed_eq (T : S100000x128.Idx → Elt F .f32) (a0 : S1024x200.Idx → BitVec 32) (a1 : S1024.Idx → BitVec 32) (h : ∀ j, (a0 j).toNat < 100000) :
    shapeCast S1024x200x128 (gathered T (flat a0 a1)) Cert.KernelIdeal.Facts₀.shapeCasts_S204800x128_S1024x200x128 = embed T a0 a1 := by
  funext j
  obtain ⟨b, l, k, rfl⟩ : ∃ (b : Fin 1024) (l : Fin 200) (k : Fin 128), j = ix3 b l k := ⟨j 0, j 1, j 2, eq_ix3 j⟩
  unfold embed
  rw [pick_cube, look_at T _ (masked_lt a0 a1 h), ← toks_masked]
  have hb := b.isLt
  have hl := l.isLt
  rw [shapeCast_apply (gathered T (flat a0 a1)) _ (ix3 b l k) (atO ⟨200 * b.val + l.val, by omega⟩ k) (by
    unfold atO
    rw [Shape.rowMajor_val_three, Shape.rowMajor_val_two]
    show (200 * b.val + l.val) * 128 + k.val = (b.val * 200 + l.val) * 128 + k.val
    omega)]
  show T (atT (rowOf (flat a0 a1 (atI ⟨200 * b.val + l.val, by omega⟩))) k) = _
  rw [flat_at]
  rfl

end Cert.Proof.GatherK

end
-- ==== Proof.Value.lean ====
/-
  What the two programs end with: the kernel's arrays after its run, the reference's after its own, both named by the
  same three functions of the arguments; and what the precondition says of the tokens.
-/
module

public import proofs.«01_k».proof.Proof.Run
public import proofs.«01_k».proof.Proof.Ref
public import proofs.«01_k».proof.Proof.Gen.Pre_in_range
public import Idealize.ShloMosaic.Lib.Quiescent

@[expose] public section

noncomputable section

namespace Cert.Proof.GatherK

open Idealize.ShloMosaic Idealize.SL.Sem
open Idealize.ShloMosaic.StableHlo (after launchContents)

variable {F : FTy → Type} [FloatOps F]

open Cert.ReferenceIdeal (S1024 S1024x200 S100000x128)

/-! ## The precondition -/

/-- The precondition says that every token is a row of the table. -/
theorem tokens_lt (a0 : S1024x200.Idx → BitVec 32) (a1 : S1024.Idx → BitVec 32) (a2 : S1024.Idx → Elt F .f32) (a3 : S100000x128.Idx → Elt F .f32)
    (h : Cert.Pre_in_range.fn (F := F) a0 a1 a2 a3 = fun _ => 1#1) (j : S1024x200.Idx) : (a0 j).toNat < 100000 := by
  have e := congrFun h (fun a => a.elim0)
  dsimp only [Cert.Pre_in_range.fn] at e
  haveI : Subsingleton Cert.Pre_in_range.S_.Idx := ⟨fun x y => funext fun a => a.elim0⟩
  have w := Host.reduce_andi_all _ _ _ _ _ e j
  have w' : IntOp.andi (IntOp.cmpi .sge (a0 j) 0#32) (IntOp.cmpi .slt (a0 j) 100000#32) = 1#1 := w
  have both : ∀ x y : BitVec 1, IntOp.andi x y = 1#1 → x = 1#1 ∧ y = 1#1 := by decide
  obtain ⟨hlo, hhi⟩ := both _ _ w'
  have lo := IntOp.cmpi_sge.1 hlo
  have hi := IntOp.cmpi_slt.1 hhi
  have z : (0#32 : BitVec 32).toInt = 0 := by decide
  have t : (100000#32 : BitVec 32).toInt = 100000 := by decide
  rw [z] at lo; rw [t] at hi
  rw [BitVec.toInt_eq_toNat_cond] at lo hi
  split at hi <;> omega

/-! ## The three results -/

/-- The second result: the lengths in order, as floats. -/
def lensOut (a1 : S1024.Idx → BitVec 32) : S1024.Idx → Elt F .f32 := sitofp .f32 (slens a1)
/-- The third result: the targets in the order of the lengths. -/
def targetsOut (a1 : S1024.Idx → BitVec 32) (a2 : S1024.Idx → Elt F .f32) : S1024.Idx → Elt F .f32 :=
  Host.gather Cert.KernelIdeal.gather_S1024_S1024x1_S1024_n_0_n_n_0_1_1 a2 (pick a1)

/-! ## The kernel -/

section Kernel

open Cert.KernelIdeal hiding S1024 S1024x200 S100000x128
open Cert.KernelIdeal.Gen

variable (m : (ℓ : Loc nD τ sig) → Buf (Elt F) ℓ) (ρ : Dev nD → PrngReg)

/-- An argument array of the launch. -/
abbrev arg (d : Dev nD) (b : Ref sig .tc) := m ((d.tc : Thread nD τ).loc b)

theorem V₃_args (d : Dev nD) (b : Ref sig .tc) (hb : b ∈ [main_arg0, main_arg1, main_arg2, main_arg3]) (hne : b ≠ main_v26) :
    V₃ m d (tc b) = m (d, tc b) :=
  (opsB_same _ b hb).trans ((V₂_ne m d _ (StableHlo.devRef_ne_of_ne hne)).trans
    (opsA_same _ b (List.mem_append_left [main_v26] hb)))

theorem V₂_of (d : Dev nD) (b : Ref sig .tc) (h : b ≠ main_v26) : V₂ m d (tc b) = V₁ m d (tc b) := V₂_ne m d _ (StableHlo.devRef_ne_of_ne h)

theorem V₃_embed (d : Dev nD) (h : ∀ j, (arg m d main_arg0 j).toNat < 100000) :
    V₃ m d (tc main_v27) = embed (arg m d main_arg3) (arg m d main_arg0) (arg m d main_arg1) := by
  unfold V₃
  rw [opsB_out, V₂_out]
  exact embed_eq _ _ _ h

theorem V₃_lens (d : Dev nD) : V₃ m d (tc main_v28) = lensOut (arg m d main_arg1) := by
  unfold V₃
  rw [opsB_lens, V₂_of m d main_v10 (by decide)]
  unfold V₁
  rw [opsA_slens]
  rfl

theorem V₃_targets (d : Dev nD) : V₃ m d (tc main_v35) = targetsOut (arg m d main_arg1) (arg m d main_arg2) := by
  unfold V₃
  rw [opsB_scores, V₂_of m d main_v3 (by decide), V₂_of m d main_arg2 (by decide)]
  unfold V₁
  rw [opsA_order, opsA_same _ main_arg2 (by decide)]
  rfl

/-- What a run of the kernel ends with: the three results, the arguments as they were, the semaphores at zero. -/
def Ends (r : PUnit × MemSt nD τ sig (Elt F)) : Prop :=
  (∀ c : Dev nD,
    r.2.mem ((c.tc : Thread nD τ).loc main_v27) = embed (arg m c main_arg3) (arg m c main_arg0) (arg m c main_arg1)
    ∧ r.2.mem ((c.tc : Thread nD τ).loc main_v28) = lensOut (arg m c main_arg1)
    ∧ r.2.mem ((c.tc : Thread nD τ).loc main_v35) = targetsOut (arg m c main_arg1) (arg m c main_arg2)
    ∧ r.2.mem ((c.tc : Thread nD τ).loc main_arg0) = arg m c main_arg0
    ∧ r.2.mem ((c.tc : Thread nD τ).loc main_arg1) = arg m c main_arg1
    ∧ r.2.mem ((c.tc : Thread nD τ).loc main_arg2) = arg m c main_arg2
    ∧ r.2.mem ((c.tc : Thread nD τ).loc main_arg3) = arg m c main_arg3)
  ∧ r.2.sem = fun _ => 0

/-- Every run of the kernel ends so, when every token is a row of the table. -/
theorem kernel_ends [∀ e, Nonempty (Elt F e)] (h : ∀ d j, (arg m d main_arg0 j).toNat < 100000) :
    θ_run (Cert.KernelIdeal.defs (F := F)) (Cert.KernelIdeal.threads (F := F)) ⟨m, fun _ => 0, ρ⟩ (Ends m) := by
  refine (θ_run _ _ _).mono (fun r hr => ?_) (run_main m ρ fun d j => toks_lt _ _ (h d) _)
  refine ⟨fun c => ?_, hr.2⟩
  have g := hr.1 c
  exact ⟨(g _ (mem_uc main_v27 (by decide))).trans (V₃_embed m c (h c)),
    (g _ (mem_uc main_v28 (by decide))).trans (V₃_lens m c),
    (g _ (mem_uc main_v35 (by decide))).trans (V₃_targets m c),
    (g _ (mem_uc main_arg0 (by decide))).trans (V₃_args m c _ (by decide) (by decide)),
    (g _ (mem_uc main_arg1 (by decide))).trans (V₃_args m c _ (by decide) (by decide)),
    (g _ (mem_uc main_arg2 (by decide))).trans (V₃_args m c _ (by decide) (by decide)),
    (g _ (mem_uc main_arg3 (by decide))).trans (V₃_args m c _ (by decide) (by decide))⟩

end Kernel

/-! ## The reference -/

section Reference

open Cert.ReferenceIdeal Cert.ReferenceIdeal.Gen

variable (m : (ℓ : Loc nD τ sig) → Buf (Elt F) ℓ) (ρ : Dev nD → PrngReg)

/-- An argument array of the reference. -/
abbrev argR (d : Dev nD) (b : Ref sig .tc) := m ((d.tc : Thread nD τ).loc b)

/-- What a run of the reference ends with. -/
def EndsR (r : PUnit × MemSt nD τ sig (Elt F)) : Prop :=
  (∀ c : Dev nD,
    r.2.mem ((c.tc : Thread nD τ).loc main_v26) = embed (argR m c main_arg3) (argR m c main_arg0) (argR m c main_arg1)
    ∧ r.2.mem ((c.tc : Thread nD τ).loc main_v19) = lensOut (argR m c main_arg1)
    ∧ r.2.mem ((c.tc : Thread nD τ).loc main_v33) = targetsOut (argR m c main_arg1) (argR m c main_arg2)
    ∧ r.2.mem ((c.tc : Thread nD τ).loc main_arg0) = argR m c main_arg0
    ∧ r.2.mem ((c.tc : Thread nD τ).loc main_arg1) = argR m c main_arg1
    ∧ r.2.mem ((c.tc : Thread nD τ).loc main_arg2) = argR m c main_arg2
    ∧ r.2.mem ((c.tc : Thread nD τ).loc main_arg3) = argR m c main_arg3)
  ∧ r.2.sem = fun _ => 0

theorem res_embed (c : Dev nD) :
    Cert.ReferenceIdeal.Value.res_out0 m c = embed (argR m c main_arg3) (argR m c main_arg0) (argR m c main_arg1) := by
  show Cert.ReferenceIdeal.Value.res_main_v26 m c = _
  unfold Cert.ReferenceIdeal.Value.res_main_v26
  rfl

/-- Every run of the reference ends so. -/
theorem reference_ends :
    θ_run (Cert.ReferenceIdeal.defs (F := F)) (onTc (τ := τ) (main (F := F))) ⟨m, fun _ => 0, ρ⟩ (EndsR m) := by
  refine (θ_run _ _ _).mono (fun r hr => ?_) (Cert.ReferenceIdeal.Value.run m ρ)
  refine ⟨fun c => ?_, sem_eq_zero_of_no_sems (by decide) r.2⟩
  obtain ⟨h0, h1, h2, h⟩ := hr c
  exact ⟨h0.trans (res_embed m c), h1, h2, h⟩

end Reference

/-! ## The equation -/

/-- From memories that agree on the arguments, both programs run and end with the same three results and the arguments as they were. -/
theorem same_results [∀ e, Nonempty (Elt F e)] (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg)
    (h : ∀ d j, (arg m d Cert.KernelIdeal.main_arg0 j).toNat < 100000)
    (same : ∀ c : Dev Cert.KernelIdeal.nD, argR m' c Cert.ReferenceIdeal.main_arg0 = arg m c Cert.KernelIdeal.main_arg0 ∧ argR m' c Cert.ReferenceIdeal.main_arg1 = arg m c Cert.KernelIdeal.main_arg1
      ∧ argR m' c Cert.ReferenceIdeal.main_arg2 = arg m c Cert.KernelIdeal.main_arg2 ∧ argR m' c Cert.ReferenceIdeal.main_arg3 = arg m c Cert.KernelIdeal.main_arg3) :
    ∃ (v0 : Dev Cert.KernelIdeal.nD → Cert.ReferenceIdeal.S1024x200x128.Idx → Elt F .f32) (v1 v2 : Dev Cert.KernelIdeal.nD → S1024.Idx → Elt F .f32),
      θ_run (Cert.KernelIdeal.defs (F := F)) (Cert.KernelIdeal.threads (F := F)) ⟨m, fun _ => 0, ρ⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = arg m c Cert.KernelIdeal.main_arg0
          ∧ r.2.mem ((c.tc : Thread Cert.KernelIdeal.nD Cert.KernelIdeal.τ).loc Cert.KernelIdeal.main_arg1) = arg m c Cert.KernelIdeal.main_arg1
          ∧ r.2.mem ((c.tc : Thread Cert.KernelIdeal.nD Cert.KernelIdeal.τ).loc Cert.KernelIdeal.main_arg2) = arg m c Cert.KernelIdeal.main_arg2
          ∧ r.2.mem ((c.tc : Thread Cert.KernelIdeal.nD Cert.KernelIdeal.τ).loc Cert.KernelIdeal.main_arg3) = arg m c Cert.KernelIdeal.main_arg3)
      ∧ θ_run (Cert.ReferenceIdeal.defs (F := F)) (onTc (τ := Cert.ReferenceIdeal.τ) (Cert.ReferenceIdeal.main (F := F))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = argR m' c Cert.ReferenceIdeal.main_arg0
          ∧ r.2.mem ((c.tc : Thread Cert.ReferenceIdeal.nD Cert.ReferenceIdeal.τ).loc Cert.ReferenceIdeal.main_arg1) = argR m' c Cert.ReferenceIdeal.main_arg1
          ∧ r.2.mem ((c.tc : Thread Cert.ReferenceIdeal.nD Cert.ReferenceIdeal.τ).loc Cert.ReferenceIdeal.main_arg2) = argR m' c Cert.ReferenceIdeal.main_arg2
          ∧ r.2.mem ((c.tc : Thread Cert.ReferenceIdeal.nD Cert.ReferenceIdeal.τ).loc Cert.ReferenceIdeal.main_arg3) = argR m' c Cert.ReferenceIdeal.main_arg3) := by
  refine ⟨fun c => embed (arg m c Cert.KernelIdeal.main_arg3) (arg m c Cert.KernelIdeal.main_arg0) (arg m c Cert.KernelIdeal.main_arg1),
    fun c => lensOut (arg m c Cert.KernelIdeal.main_arg1), fun c => targetsOut (arg m c Cert.KernelIdeal.main_arg1) (arg m c Cert.KernelIdeal.main_arg2), ?_, ?_⟩
  · exact (θ_run _ _ _).mono (fun _ r c => r.1 c) (kernel_ends m ρ h)
  · refine (θ_run _ _ _).mono (fun _ r c => ?_) (reference_ends m' ρ')
    obtain ⟨e0, e1, e2, e3⟩ := same c
    obtain ⟨h0, h1, h2, rest⟩ := r.1 c
    refine ⟨h0.trans ?_, h1.trans ?_, h2.trans ?_, rest⟩
    · rw [e0, e1, e3]
    · rw [e1]
    · rw [e1, e2]

end Cert.Proof.GatherK

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Pre_in_range
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, leaves its arguments as they were and every semaphore at zero. -/
theorem frame_kernel : Cert.quiescent_Kernel := fun m ρ h =>
  (θ_run Cert.KernelIdeal.defs _ _).mono (fun _ r => ⟨fun c => (r.1 c).2.2.2, r.2⟩)
    (GatherK.kernel_ends (F := Bits) m ρ fun d j => GatherK.tokens_lt _ _ _ _ (h d) j)

/-- So does the kernel over the extended reals. -/
theorem frame_kernel_ideal : Cert.quiescent_KernelIdeal := fun m ρ h =>
  (θ_run Cert.KernelIdeal.defs _ _).mono (fun _ r => ⟨fun c => (r.1 c).2.2.2, r.2⟩)
    (GatherK.kernel_ends (F := Ideal) m ρ fun d j => GatherK.tokens_lt _ _ _ _ (h d) j)

/-- The reference runs from any memory, leaves its arguments as they were and every semaphore at zero. -/
theorem frame_reference_ideal : Cert.quiescent_ReferenceIdeal := fun m ρ _ =>
  (θ_run Cert.ReferenceIdeal.defs _ _).mono (fun _ r => ⟨fun c => (r.1 c).2.2.2, r.2⟩) (GatherK.reference_ends (F := Ideal) m ρ)

/-- In particular where the tokens are rows of the table. -/
theorem frame_reference_ideal_pre : Cert.quiescent_ReferenceIdeal_pre_in_range := fun m ρ _ => frame_reference_ideal m ρ trivial

/-- The reference as printed runs, leaves its arguments as they were and every semaphore at zero. -/
theorem frame_reference : Cert.quiescent_Reference := fun m ρ _ =>
  (θ_run Cert.ReferenceIdeal.defs _ _).mono (fun _ r => ⟨fun c => (r.1 c).2.2.2, r.2⟩) (GatherK.reference_ends (F := Bits) m ρ)

/-- Kernel and reference end with the same three results over the extended reals. -/
theorem algebraic : Cert.algebraic_KernelIdeal_ReferenceIdeal := fun m ρ m' ρ' h same =>
  GatherK.same_results (F := Ideal) m ρ m' ρ' (fun d j => GatherK.tokens_lt _ _ _ _ (h d) j) same

set_option maxHeartbeats 4000000 in
/-- Kernel and reference as printed end with the same three results, word for word. -/
theorem bitexact : Cert.bitexact_Kernel_Reference := fun m ρ m' ρ' h same => by
  obtain ⟨v0, v1, v2, hk, hr⟩ := GatherK.same_results (F := Bits) m ρ m' ρ' (fun d j => GatherK.tokens_lt _ _ _ _ (h d) j) same
  exact ⟨v0, v1, v2, (θ_run Cert.KernelIdeal.defs _ _).mono (fun _ r c => r c) hk, (θ_run Cert.ReferenceIdeal.defs _ _).mono (fun _ r c => r c) hr⟩

theorem claim : Cert.Claim := ⟨Cert.Kernel.Gen.facts, Cert.KernelIdeal.Gen.facts, Cert.ReferenceIdeal.Gen.facts, Cert.Reference.Gen.facts, Cert.Pre_in_range.Gen.facts,
  frame_kernel, frame_kernel_ideal, frame_reference_ideal, frame_reference_ideal_pre, frame_reference, trivial, algebraic, bitexact⟩

end Cert.Proof

end
